-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_and_edges [hPre_finite_inputs_and_edges : Cert.Pre_finite_inputs_and_edges.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_and_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite_inputs_and_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite_inputs_and_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_and_edges [hPre_finite_inputs_and_edges : Cert.Pre_finite_inputs_and_edges.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_and_edges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite_inputs_and_edges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite_inputs_and_edges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_inputs_and_edges [hKernelIdeal : Cert.KernelIdeal.Facts] [hPre_finite_inputs_and_edges : Cert.Pre_finite_inputs_and_edges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_and_edges m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_inputs_and_edges [hReferenceIdeal : Cert.ReferenceIdeal.Facts] [hPre_finite_inputs_and_edges : Cert.Pre_finite_inputs_and_edges.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_and_edges m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "inv_n" .f32 0x3D70F0F1#32 ((1 / 17 : ℝ) : EReal)

def algebraic_KernelIdeal_ReferenceIdeal_pre_finite_inputs_and_edges [hKernelIdeal : Cert.KernelIdeal.Facts] [hReferenceIdeal : Cert.ReferenceIdeal.Facts] [hPre_finite_inputs_and_edges : Cert.Pre_finite_inputs_and_edges.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_and_edges m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs_and_edges : Cert.Pre_finite_inputs_and_edges.Facts),
    quiescent_Kernel (hKernel := hKernel)
    ∧ quiescent_KernelIdeal (hKernelIdeal := hKernelIdeal)
    ∧ quiescent_KernelIdeal_pre_finite_inputs_and_edges (hKernelIdeal := hKernelIdeal) (hPre_finite_inputs_and_edges := hPre_finite_inputs_and_edges)
    ∧ quiescent_ReferenceIdeal (hReferenceIdeal := hReferenceIdeal)
    ∧ quiescent_ReferenceIdeal_pre_finite_inputs_and_edges (hReferenceIdeal := hReferenceIdeal) (hPre_finite_inputs_and_edges := hPre_finite_inputs_and_edges)
    ∧ preserves_Kernel_KernelIdeal
    ∧ algebraic_KernelIdeal_ReferenceIdeal_pre_finite_inputs_and_edges (hKernelIdeal := hKernelIdeal) (hReferenceIdeal := hReferenceIdeal) (hPre_finite_inputs_and_edges := hPre_finite_inputs_and_edges)
-- ==== Pre_finite_inputs_and_edges.lean ====
abbrev S256x200x17x2 : Shape := ⟨4, ![256, 200, 17, 2]⟩
abbrev S2x17 : Shape := ⟨2, ![2, 17]⟩
abbrev S2x128 : Shape := ⟨2, ![2, 128]⟩
abbrev S128 : Shape := ⟨1, ![128]⟩
abbrev S128x128 : Shape := ⟨2, ![128, 128]⟩
abbrev S1024x128 : Shape := ⟨2, ![1024, 128]⟩
abbrev S1024x256 : Shape := ⟨2, ![1024, 256]⟩
abbrev S1024 : Shape := ⟨1, ![1024]⟩
abbrev S1x256 : Shape := ⟨2, ![1, 256]⟩
abbrev S1 : Shape := ⟨1, ![1]⟩
abbrev S_ : Shape := ⟨0, ![]⟩

class Facts : Prop where
  bcast_S_S256x200x17x2 : S_.BroadcastsInDim S256x200x17x2 (![] : Fin 0 → Fin S256x200x17x2.rank)
  bcast_S_S2x17 : S_.BroadcastsInDim S2x17 (![] : Fin 0 → Fin S2x17.rank)
  bcast_S_S2x128 : S_.BroadcastsInDim S2x128 (![] : Fin 0 → Fin S2x128.rank)

variable [Facts]

def fn {F : FTy → Type} [FloatOps F] (main_arg0 : FVec F S256x200x17x2 .f32) (main_arg1 : IVec S2x17 32) (main_arg2 : FVec F S2x128 .f32) (main_arg3 : FVec F S128 .f32) (main_arg4 : FVec F S128x128 .f32) (main_arg5 : FVec F S128 .f32) (main_arg6 : FVec F S1024x128 .f32) (main_arg7 : FVec F S1024x256 .f32) (main_arg8 : FVec F S1024 .f32) (main_arg9 : FVec F S1024 .f32) (main_arg10 : FVec F S1x256 .f32) (main_arg11 : FVec F S1 .f32) : IVec S256x200x17x2 1 × IVec S2x17 1 × IVec S2x128 1 :=
  let main_v0 : FVec F S256x200x17x2 .f32 := Host.absf main_arg0
  let main_cst : FVec F S_ .f32 := constant S_ .f32 0x7F800000#32
  let main_v1 : FVec F S256x200x17x2 .f32 := broadcastInDim S256x200x17x2 ![] bcast_S_S256x200x17x2 main_cst
  let main_v2 : IVec S256x200x17x2 1 := cmpf .olt main_v0 main_v1
  let main_c : IVec S_ 32 := constantI S_ 32 0#32
  let main_v3 : IVec S2x17 32 := broadcastInDim S2x17 ![] bcast_S_S2x17 main_c
  let main_v4 : IVec S2x17 1 := cmpi .sge main_arg1 main_v3
  let main_c_0 : IVec S_ 32 := constantI S_ 32 17#32
  let main_v5 : IVec S2x17 32 := broadcastInDim S2x17 ![] bcast_S_S2x17 main_c_0
  let main_v6 : IVec S2x17 1 := cmpi .slt main_arg1 main_v5
  let main_v7 : IVec S2x17 1 := andi main_v4 main_v6
  let main_v8 : FVec F S2x128 .f32 := Host.absf main_arg2
  let main_cst_1 : FVec F S_ .f32 := constant S_ .f32 0x7F800000#32
  let main_v9 : FVec F S2x128 .f32 := broadcastInDim S2x128 ![] bcast_S_S2x128 main_cst_1
  let main_v10 : IVec S2x128 1 := cmpf .olt main_v8 main_v9
  (main_v2, main_v7, main_v10)
-- ==== Kernel.lean ====
abbrev S256x200x17x2 : Shape := ⟨4, ![256, 200, 17, 2]⟩
abbrev S2x17 : Shape := ⟨2, ![2, 17]⟩
abbrev S2x128 : Shape := ⟨2, ![2, 128]⟩
abbrev S128 : Shape := ⟨1, ![128]⟩
abbrev S128x128 : Shape := ⟨2, ![128, 128]⟩
abbrev S1024x128 : Shape := ⟨2, ![1024, 128]⟩
abbrev S1024x256 : Shape := ⟨2, ![1024, 256]⟩
abbrev S1024 : Shape := ⟨1, ![1024]⟩
abbrev S1x256 : Shape := ⟨2, ![1, 256]⟩
abbrev S1 : Shape := ⟨1, ![1]⟩
abbrev S200x17x2x256 : Shape := ⟨4, ![200, 17, 2, 256]⟩
abbrev S200x17x512 : Shape := ⟨3, ![200, 17, 512]⟩
abbrev S_ : Shape := ⟨0, ![]⟩
abbrev S8x32 : Shape := ⟨2, ![8, 32]⟩
abbrev S2 : Shape := ⟨1, ![2]⟩
abbrev S128x1024 : Shape := ⟨2, ![128, 1024]⟩
abbrev S256x1024 : Shape := ⟨2, ![256, 1024]⟩
abbrev S1x1024 : Shape := ⟨2, ![1, 1024]⟩
abbrev S512 : Shape := ⟨1, ![512]⟩
abbrev S256 : Shape := ⟨1, ![256]⟩
abbrev S1024x1 : Shape := ⟨2, ![1024, 1]⟩
abbrev S1x128 : Shape := ⟨2, ![1, 128]⟩
abbrev S256x128 : Shape := ⟨2, ![256, 128]⟩
abbrev S32768 : Shape := ⟨1, ![32768]⟩
abbrev S1x32768 : Shape := ⟨2, ![1, 32768]⟩
abbrev S256x1 : Shape := ⟨2, ![256, 1]⟩
abbrev S1x1 : Shape := ⟨2, ![1, 1]⟩
abbrev S10x17x512 : Shape := ⟨3, ![10, 17, 512]⟩
abbrev S256x256 : Shape := ⟨2, ![256, 256]⟩
abbrev S1x32 : Shape := ⟨2, ![1, 32]⟩
abbrev S17x32 : Shape := ⟨2, ![17, 32]⟩
abbrev S17x17 : Shape := ⟨2, ![17, 17]⟩
abbrev S17 : Shape := ⟨1, ![17]⟩
abbrev S17x1 : Shape := ⟨2, ![17, 1]⟩
abbrev S1x17x512 : Shape := ⟨3, ![1, 17, 512]⟩
abbrev S17x512 : Shape := ⟨2, ![17, 512]⟩
abbrev S17x256 : Shape := ⟨2, ![17, 256]⟩
abbrev S17x256x1 : Shape := ⟨3, ![17, 256, 1]⟩
abbrev S17x256x128 : Shape := ⟨3, ![17, 256, 128]⟩
abbrev S1x1x128 : Shape := ⟨3, ![1, 1, 128]⟩
abbrev S4352x128 : Shape := ⟨2, ![4352, 128]⟩
abbrev S17x32768 : Shape := ⟨2, ![17, 32768]⟩
abbrev S256x768 : Shape := ⟨2, ![256, 768]⟩

abbrev nBuf : Space → Nat
  | .hbm => 75
  | .vmem => 16
  | .smem => 0
  | _ => 0

abbrev bufTy : (tb : Table) → Fin (tcTables nBuf tb) → BufTy
  | .hbm, ⟨0, _⟩ => ⟨S256x200x17x2, .f32⟩
  | .hbm, ⟨1, _⟩ => ⟨S2x17, .i32⟩
  | .hbm, ⟨2, _⟩ => ⟨S2x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1024x128, .f32⟩
  | .hbm, ⟨7, _⟩ => ⟨S1024x256, .f32⟩
  | .hbm, ⟨8, _⟩ => ⟨S1024, .f32⟩
  | .hbm, ⟨9, _⟩ => ⟨S1024, .f32⟩
  | .hbm, ⟨10, _⟩ => ⟨S1x256, .f32⟩
  | .hbm, ⟨11, _⟩ => ⟨S1, .f32⟩
  | .hbm, ⟨12, _⟩ => ⟨S200x17x2x256, .f32⟩
  | .hbm, ⟨13, _⟩ => ⟨S200x17x512, .f32⟩
  | .hbm, ⟨14, _⟩ => ⟨S_, .f32⟩
  | .hbm, ⟨15, _⟩ => ⟨S8x32, .f32⟩
  | .hbm, ⟨16, _⟩ => ⟨S2x17, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S2, .i32⟩
  | .hbm, ⟨22, _⟩ => ⟨S8x32, .f32⟩
  | .hbm, ⟨23, _⟩ => ⟨S128x1024, .f32⟩
  | .hbm, ⟨24, _⟩ => ⟨S256x1024, .f32⟩
  | .hbm, ⟨25, _⟩ => ⟨S1024, .f32⟩
  | .hbm, ⟨26, _⟩ => ⟨S1x1024, .f32⟩
  | .hbm, ⟨27, _⟩ => ⟨S512, .i32⟩
  | .hbm, ⟨28, _⟩ => ⟨S256, .i32⟩
  | .hbm, ⟨29, _⟩ => ⟨S_, .i32⟩
  | .hbm, ⟨30, _⟩ => ⟨S256, .i32⟩
  | .hbm, ⟨31, _⟩ => ⟨S256, .i32⟩
  | .hbm, ⟨32, _⟩ => ⟨S256, .i32⟩
  | .hbm, ⟨33, _⟩ => ⟨S_, .i32⟩
  | .hbm, ⟨34, _⟩ => ⟨S256, .i32⟩
  | .hbm, ⟨35, _⟩ => ⟨S256, .i32⟩
  | .hbm, ⟨36, _⟩ => ⟨S1024, .i32⟩
  | .hbm, ⟨37, _⟩ => ⟨S_, .i32⟩
  | .hbm, ⟨38, _⟩ => ⟨S1024, .i32⟩
  | .hbm, ⟨39, _⟩ => ⟨S1024, .i1⟩
  | .hbm, ⟨40, _⟩ => ⟨S_, .i32⟩
  | .hbm, ⟨41, _⟩ => ⟨S1024, .i32⟩
  | .hbm, ⟨42, _⟩ => ⟨S1024, .i32⟩
  | .hbm, ⟨43, _⟩ => ⟨S1024, .i32⟩
  | .hbm, ⟨44, _⟩ => ⟨S1024x1, .i32⟩
  | .hbm, ⟨45, _⟩ => ⟨S128x1024, .f32⟩
  | .hbm, ⟨46, _⟩ => ⟨S128x1024, .bf16⟩
  | .hbm, ⟨47, _⟩ => ⟨S_, .i32⟩
  | .hbm, ⟨48, _⟩ => ⟨S1024, .i32⟩
  | .hbm, ⟨49, _⟩ => ⟨S1024, .i1⟩
  | .hbm, ⟨50, _⟩ => ⟨S_, .i32⟩
  | .hbm, ⟨51, _⟩ => ⟨S1024, .i32⟩
  | .hbm, ⟨52, _⟩ => ⟨S1024, .i32⟩
  | .hbm, ⟨53, _⟩ => ⟨S1024, .i32⟩
  | .hbm, ⟨54, _⟩ => ⟨S1024x1, .i32⟩
  | .hbm, ⟨55, _⟩ => ⟨S256x1024, .f32⟩
  | .hbm, ⟨56, _⟩ => ⟨S256x1024, .bf16⟩
  | .hbm, ⟨57, _⟩ => ⟨S_, .i32⟩
  | .hbm, ⟨58, _⟩ => ⟨S1024, .i32⟩
  | .hbm, ⟨59, _⟩ => ⟨S1024, .i1⟩
  | .hbm, ⟨60, _⟩ => ⟨S_, .i32⟩
  | .hbm, ⟨61, _⟩ => ⟨S1024, .i32⟩
  | .hbm, ⟨62, _⟩ => ⟨S1024, .i32⟩
  | .hbm, ⟨63, _⟩ => ⟨S1024, .i32⟩
  | .hbm, ⟨64, _⟩ => ⟨S1024x1, .i32⟩
  | .hbm, ⟨65, _⟩ => ⟨S1x1024, .f32⟩
  | .hbm, ⟨66, _⟩ => ⟨S1x128, .f32⟩
  | .hbm, ⟨67, _⟩ => ⟨S1x128, .f32⟩
  | .hbm, ⟨68, _⟩ => ⟨S256x128, .f32⟩
  | .hbm, ⟨69, _⟩ => ⟨S32768, .f32⟩
  | .hbm, ⟨70, _⟩ => ⟨S1x32768, .f32⟩
  | .hbm, ⟨71, _⟩ => ⟨S256x1, .f32⟩
  | .hbm, ⟨72, _⟩ => ⟨S1x1, .f32⟩
  | .hbm, ⟨73, _⟩ => ⟨S128x128, .bf16⟩
  | .hbm, ⟨74, _⟩ => ⟨S256x1, .f32⟩
  | .local _ .vmem, ⟨0, _⟩ => ⟨S10x17x512, .f32⟩
  | .local _ .vmem, ⟨1, _⟩ => ⟨S10x17x512, .f32⟩
  | .local _ .vmem, ⟨2, _⟩ => ⟨S8x32, .f32⟩
  | .local _ .vmem, ⟨3, _⟩ => ⟨S2x128, .f32⟩
  | .local _ .vmem, ⟨4, _⟩ => ⟨S1x128, .f32⟩
  | .local _ .vmem, ⟨5, _⟩ => ⟨S128x128, .bf16⟩
  | .local _ .vmem, ⟨6, _⟩ => ⟨S1x32768, .f32⟩
  | .local _ .vmem, ⟨7, _⟩ => ⟨S128x1024, .bf16⟩
  | .local _ .vmem, ⟨8, _⟩ => ⟨S256x1024, .bf16⟩
  | .local _ .vmem, ⟨9, _⟩ => ⟨S1x1024, .f32⟩
  | .local _ .vmem, ⟨10, _⟩ => ⟨S256x1, .f32⟩
  | .local _ .vmem, ⟨11, _⟩ => ⟨S1x1, .f32⟩
  | .local _ .vmem, ⟨12, _⟩ => ⟨S256x1, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S256x200x17x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_c_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v811 : BitVec 1 := Scalar.cmpi .eq arg0 c19_i32
  let v812 : BitVec 32 := Scalar.extui v811
  let c0_i32_304 : BitVec 32 := 0#32
  let v813 : BitVec 1 := Scalar.cmpi .ne v812 c0_i32_304
  v813

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10x17x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
variable {F : FTy → Type} [FloatOps F] [Named F]
def κ : String → Option EReal := fun
  | "inv_n" => some ((1 / 17 : ℝ) : EReal)
  | _ => none
-- ==== ReferenceIdeal.lean ====
abbrev S256x200x17x2 : Shape := ⟨4, ![256, 200, 17, 2]⟩
abbrev S2x17 : Shape := ⟨2, ![2, 17]⟩
abbrev S2x128 : Shape := ⟨2, ![2, 128]⟩
abbrev S128 : Shape := ⟨1, ![128]⟩
abbrev S128x128 : Shape := ⟨2, ![128, 128]⟩
abbrev S1024x128 : Shape := ⟨2, ![1024, 128]⟩
abbrev S1024x256 : Shape := ⟨2, ![1024, 256]⟩
abbrev S1024 : Shape := ⟨1, ![1024]⟩
abbrev S1x256 : Shape := ⟨2, ![1, 256]⟩
abbrev S1 : Shape := ⟨1, ![1]⟩
abbrev S1x17 : Shape := ⟨2, ![1, 17]⟩
abbrev S17 : Shape := ⟨1, ![17]⟩
abbrev S34 : Shape := ⟨1, ![34]⟩
abbrev S_ : Shape := ⟨0, ![]⟩
abbrev S34x1 : Shape := ⟨2, ![34, 1]⟩
abbrev S256x200x17x128 : Shape := ⟨4, ![256, 200, 17, 128]⟩
abbrev S256x200x34x128 : Shape := ⟨4, ![256, 200, 34, 128]⟩
abbrev S1x34x1 : Shape := ⟨3, ![1, 34, 1]⟩
abbrev S1x1x34x1 : Shape := ⟨4, ![1, 1, 34, 1]⟩
abbrev S17x128 : Shape := ⟨2, ![17, 128]⟩
abbrev S200x17x128 : Shape := ⟨3, ![200, 17, 128]⟩
abbrev S1x128 : Shape := ⟨2, ![1, 128]⟩
abbrev S1x1x128 : Shape := ⟨3, ![1, 1, 128]⟩
abbrev S1x1x1x128 : Shape := ⟨4, ![1, 1, 1, 128]⟩
abbrev S256x200x128 : Shape := ⟨3, ![256, 200, 128]⟩
abbrev S256 : Shape := ⟨1, ![256]⟩
abbrev S256x256 : Shape := ⟨2, ![256, 256]⟩
abbrev S200x256x128 : Shape := ⟨3, ![200, 256, 128]⟩
abbrev S200x256x256 : Shape := ⟨3, ![200, 256, 256]⟩
abbrev S1x256x128 : Shape := ⟨3, ![1, 256, 128]⟩
abbrev S256x128 : Shape := ⟨2, ![256, 128]⟩
abbrev S256x1024 : Shape := ⟨2, ![256, 1024]⟩
abbrev S1x1024 : Shape := ⟨2, ![1, 1024]⟩
abbrev S1x256x256 : Shape := ⟨3, ![1, 256, 256]⟩
abbrev S256x200x256 : Shape := ⟨3, ![256, 200, 256]⟩
abbrev S256x1 : Shape := ⟨2, ![256, 1]⟩
abbrev S1x1 : Shape := ⟨2, ![1, 1]⟩

abbrev nBuf : Space → Nat
  | .hbm => 275
  | .vmem => 0
  | .smem => 0
  | _ => 0

abbrev hbmTy0_0 (i : Nat) : BufTy := match i % 128 with
  | 0 => ⟨S256x200x17x2, .f32⟩
  | 1 => ⟨S2x17, .i32⟩
  | 2 => ⟨S2x128, .f32⟩
  | 3 => ⟨S128, .f32⟩
  | 4 => ⟨S128x128, .f32⟩
  | 5 => ⟨S128, .f32⟩
  | 6 => ⟨S1024x128, .f32⟩
  | 7 => ⟨S1024x256, .f32⟩
  | 8 => ⟨S1024, .f32⟩
  | 9 => ⟨S1024, .f32⟩
  | 10 => ⟨S1x256, .f32⟩
  | 11 => ⟨S1, .f32⟩
  | 12 => ⟨S1x17, .i32⟩
  | 13 => ⟨S17, .i32⟩
  | 14 => ⟨S1x17, .i32⟩
  | 15 => ⟨S17, .i32⟩
  | 16 => ⟨S17, .i32⟩
  | 17 => ⟨S34, .i32⟩
  | 18 => ⟨S34, .i32⟩
  | 19 => ⟨S_, .f32⟩
  | 20 => ⟨S17, .f32⟩
  | 21 => ⟨S_, .i32⟩
  | 22 => ⟨S34, .i32⟩
  | 23 => ⟨S34, .i1⟩
  | 24 => ⟨S_, .i32⟩
  | 25 => ⟨S34, .i32⟩
  | 26 => ⟨S34, .i32⟩
  | 27 => ⟨S34, .i32⟩
  | 28 => ⟨S34x1, .i32⟩
  | 29 => ⟨S_, .f32⟩
  | 30 => ⟨S34, .f32⟩
  | 31 => ⟨S17, .f32⟩
  | 32 => ⟨S_, .f32⟩
  | 33 => ⟨S17, .f32⟩
  | 34 => ⟨S17, .i1⟩
  | 35 => ⟨S_, .f32⟩
  | 36 => ⟨S17, .f32⟩
  | 37 => ⟨S17, .f32⟩
  | 38 => ⟨S_, .f32⟩
  | 39 => ⟨S_, .f32⟩
  | 40 => ⟨S17, .f32⟩
  | 41 => ⟨S17, .f32⟩
  | 42 => ⟨S_, .i32⟩
  | 43 => ⟨S34, .i32⟩
  | 44 => ⟨S34, .i1⟩
  | 45 => ⟨S_, .i32⟩
  | 46 => ⟨S34, .i32⟩
  | 47 => ⟨S34, .i32⟩
  | 48 => ⟨S34, .i32⟩
  | 49 => ⟨S34x1, .i32⟩
  | 50 => ⟨S34, .f32⟩
  | 51 => ⟨S_, .i32⟩
  | 52 => ⟨S34, .i32⟩
  | 53 => ⟨S34, .i1⟩
  | 54 => ⟨S_, .i32⟩
  | 55 => ⟨S34, .i32⟩
  | 56 => ⟨S34, .i32⟩
  | 57 => ⟨S34, .i32⟩
  | 58 => ⟨S34x1, .i32⟩
  | 59 => ⟨S34, .f32⟩
  | 60 => ⟨S34, .f32⟩
  | 61 => ⟨S256x200x17x128, .f32⟩
  | 62 => ⟨S34x1, .f32⟩
  | 63 => ⟨S_, .i32⟩
  | 64 => ⟨S34, .i32⟩
  | 65 => ⟨S34, .i1⟩
  | 66 => ⟨S_, .i32⟩
  | 67 => ⟨S34, .i32⟩
  | 68 => ⟨S34, .i32⟩
  | 69 => ⟨S34, .i32⟩
  | 70 => ⟨S34x1, .i32⟩
  | 71 => ⟨S256x200x34x128, .f32⟩
  | 72 => ⟨S1x34x1, .f32⟩
  | 73 => ⟨S1x1x34x1, .f32⟩
  | 74 => ⟨S256x200x34x128, .f32⟩
  | 75 => ⟨S256x200x34x128, .f32⟩
  | 76 => ⟨S_, .f32⟩
  | 77 => ⟨S17x128, .f32⟩
  | 78 => ⟨S_, .i32⟩
  | 79 => ⟨S34, .i32⟩
  | 80 => ⟨S34, .i1⟩
  | 81 => ⟨S_, .i32⟩
  | 82 => ⟨S34, .i32⟩
  | 83 => ⟨S34, .i32⟩
  | 84 => ⟨S34, .i32⟩
  | 85 => ⟨S34x1, .i32⟩
  | 86 => ⟨S200x17x128, .f32⟩
  | 87 => ⟨S256x200x17x128, .f32⟩
  | 88 => ⟨S256x200x17x128, .f32⟩
  | 89 => ⟨S1x128, .f32⟩
  | 90 => ⟨S1x1x128, .f32⟩
  | 91 => ⟨S1x1x1x128, .f32⟩
  | 92 => ⟨S256x200x17x128, .f32⟩
  | 93 => ⟨S256x200x17x128, .f32⟩
  | 94 => ⟨S_, .f32⟩
  | 95 => ⟨S256x200x17x128, .f32⟩
  | 96 => ⟨S256x200x17x128, .f32⟩
  | 97 => ⟨S17, .i32⟩
  | 98 => ⟨S34, .i32⟩
  | 99 => ⟨S34, .i32⟩
  | 100 => ⟨S_, .f32⟩
  | 101 => ⟨S17, .f32⟩
  | 102 => ⟨S_, .i32⟩
  | 103 => ⟨S34, .i32⟩
  | 104 => ⟨S34, .i1⟩
  | 105 => ⟨S_, .i32⟩
  | 106 => ⟨S34, .i32⟩
  | 107 => ⟨S34, .i32⟩
  | 108 => ⟨S34, .i32⟩
  | 109 => ⟨S34x1, .i32⟩
  | 110 => ⟨S_, .f32⟩
  | 111 => ⟨S34, .f32⟩
  | 112 => ⟨S17, .f32⟩
  | 113 => ⟨S_, .f32⟩
  | 114 => ⟨S17, .f32⟩
  | 115 => ⟨S17, .i1⟩
  | 116 => ⟨S_, .f32⟩
  | 117 => ⟨S17, .f32⟩
  | 118 => ⟨S17, .f32⟩
  | 119 => ⟨S_, .f32⟩
  | 120 => ⟨S_, .f32⟩
  | 121 => ⟨S17, .f32⟩
  | 122 => ⟨S17, .f32⟩
  | 123 => ⟨S_, .i32⟩
  | 124 => ⟨S34, .i32⟩
  | 125 => ⟨S34, .i1⟩
  | 126 => ⟨S_, .i32⟩
  | 127 => ⟨S34, .i32⟩
  | _ => ⟨S256x200x17x2, .f32⟩

abbrev hbmTy0_1 (i : Nat) : BufTy := match i % 128 with
  | 0 => ⟨S34, .i32⟩
  | 1 => ⟨S34, .i32⟩
  | 2 => ⟨S34x1, .i32⟩
  | 3 => ⟨S34, .f32⟩
  | 4 => ⟨S_, .i32⟩
  | 5 => ⟨S34, .i32⟩
  | 6 => ⟨S34, .i1⟩
  | 7 => ⟨S_, .i32⟩
  | 8 => ⟨S34, .i32⟩
  | 9 => ⟨S34, .i32⟩
  | 10 => ⟨S34, .i32⟩
  | 11 => ⟨S34x1, .i32⟩
  | 12 => ⟨S34, .f32⟩
  | 13 => ⟨S34, .f32⟩
  | 14 => ⟨S256x200x17x128, .f32⟩
  | 15 => ⟨S34x1, .f32⟩
  | 16 => ⟨S_, .i32⟩
  | 17 => ⟨S34, .i32⟩
  | 18 => ⟨S34, .i1⟩
  | 19 => ⟨S_, .i32⟩
  | 20 => ⟨S34, .i32⟩
  | 21 => ⟨S34, .i32⟩
  | 22 => ⟨S34, .i32⟩
  | 23 => ⟨S34x1, .i32⟩
  | 24 => ⟨S256x200x34x128, .f32⟩
  | 25 => ⟨S1x34x1, .f32⟩
  | 26 => ⟨S1x1x34x1, .f32⟩
  | 27 => ⟨S256x200x34x128, .f32⟩
  | 28 => ⟨S256x200x34x128, .f32⟩
  | 29 => ⟨S_, .f32⟩
  | 30 => ⟨S17x128, .f32⟩
  | 31 => ⟨S_, .i32⟩
  | 32 => ⟨S34, .i32⟩
  | 33 => ⟨S34, .i1⟩
  | 34 => ⟨S_, .i32⟩
  | 35 => ⟨S34, .i32⟩
  | 36 => ⟨S34, .i32⟩
  | 37 => ⟨S34, .i32⟩
  | 38 => ⟨S34x1, .i32⟩
  | 39 => ⟨S200x17x128, .f32⟩
  | 40 => ⟨S256x200x17x128, .f32⟩
  | 41 => ⟨S256x200x17x128, .f32⟩
  | 42 => ⟨S1x128, .f32⟩
  | 43 => ⟨S1x1x128, .f32⟩
  | 44 => ⟨S1x1x1x128, .f32⟩
  | 45 => ⟨S256x200x17x128, .f32⟩
  | 46 => ⟨S256x200x17x128, .f32⟩
  | 47 => ⟨S_, .f32⟩
  | 48 => ⟨S256x200x17x128, .f32⟩
  | 49 => ⟨S256x200x17x128, .f32⟩
  | 50 => ⟨S_, .f32⟩
  | 51 => ⟨S256x200x128, .f32⟩
  | 52 => ⟨S_, .f32⟩
  | 53 => ⟨S256x200x128, .f32⟩
  | 54 => ⟨S256x200x128, .f32⟩
  | 55 => ⟨S_, .f32⟩
  | 56 => ⟨S256, .f32⟩
  | 57 => ⟨S_, .f32⟩
  | 58 => ⟨S256, .f32⟩
  | 59 => ⟨S256x256, .f32⟩
  | 60 => ⟨S256x256, .f32⟩
  | 61 => ⟨S200x256x128, .f32⟩
  | 62 => ⟨S_, .f32⟩
  | 63 => ⟨S200x256x256, .f32⟩
  | 64 => ⟨S_, .i32⟩
  | 65 => ⟨S200x256x128, .f32⟩
  | 66 => ⟨S1024x128, .f32⟩
  | 67 => ⟨S1024, .f32⟩
  | 68 => ⟨S1024x256, .f32⟩
  | 69 => ⟨S1024, .f32⟩
  | 70 => ⟨S_, .i32⟩
  | 71 => ⟨S256x256, .f32⟩
  | 72 => ⟨S256x256, .f32⟩
  | 73 => ⟨S200x256x256, .f32⟩
  | 74 => ⟨S_, .i32⟩
  | 75 => ⟨S_, .i1⟩
  | 76 => ⟨S_, .i32⟩
  | 77 => ⟨S_, .i32⟩
  | 78 => ⟨S1x256x128, .f32⟩
  | 79 => ⟨S256x128, .f32⟩
  | 80 => ⟨S1024x256, .f32⟩
  | 81 => ⟨S256x1024, .f32⟩
  | 82 => ⟨S1x1024, .f32⟩
  | 83 => ⟨S256x1024, .f32⟩
  | 84 => ⟨S256x1024, .f32⟩
  | 85 => ⟨S1024x256, .f32⟩
  | 86 => ⟨S256x1024, .f32⟩
  | 87 => ⟨S256x1024, .f32⟩
  | 88 => ⟨S1x1024, .f32⟩
  | 89 => ⟨S256x1024, .f32⟩
  | 90 => ⟨S256x1024, .f32⟩
  | 91 => ⟨S256x256, .f32⟩
  | 92 => ⟨S256x256, .f32⟩
  | 93 => ⟨S256x256, .f32⟩
  | 94 => ⟨S256x256, .f32⟩
  | 95 => ⟨S256x256, .f32⟩
  | 96 => ⟨S256x256, .f32⟩
  | 97 => ⟨S_, .f32⟩
  | 98 => ⟨S256x256, .f32⟩
  | 99 => ⟨S256x256, .f32⟩
  | 100 => ⟨S_, .f32⟩
  | 101 => ⟨S256x256, .f32⟩
  | 102 => ⟨S256x256, .f32⟩
  | 103 => ⟨S256x256, .f32⟩
  | 104 => ⟨S256x256, .f32⟩
  | 105 => ⟨S_, .f32⟩
  | 106 => ⟨S256x256, .f32⟩
  | 107 => ⟨S256x256, .f32⟩
  | 108 => ⟨S_, .f32⟩
  | 109 => ⟨S256x256, .f32⟩
  | 110 => ⟨S256x256, .f32⟩
  | 111 => ⟨S256x256, .f32⟩
  | 112 => ⟨S256x256, .f32⟩
  | 113 => ⟨S256x256, .f32⟩
  | 114 => ⟨S_, .f32⟩
  | 115 => ⟨S256x256, .f32⟩
  | 116 => ⟨S256x256, .f32⟩
  | 117 => ⟨S_, .f32⟩
  | 118 => ⟨S256x256, .f32⟩
  | 119 => ⟨S256x256, .f32⟩
  | 120 => ⟨S256x256, .f32⟩
  | 121 => ⟨S256x256, .f32⟩
  | 122 => ⟨S256x256, .f32⟩
  | 123 => ⟨S256x256, .f32⟩
  | 124 => ⟨S256x256, .f32⟩
  | 125 => ⟨S1x256x256, .f32⟩
  | 126 => ⟨S_, .i32⟩
  | 127 => ⟨S_, .i32⟩
  | _ => ⟨S256x200x17x2, .f32⟩

abbrev hbmTy0_2 (i : Nat) : BufTy := match i % 128 with
  | 0 => ⟨S200x256x256, .f32⟩
  | 1 => ⟨S_, .i32⟩
  | 2 => ⟨S_, .i32⟩
  | 3 => ⟨S256x200x256, .f32⟩
  | 4 => ⟨S_, .f32⟩
  | 5 => ⟨S256x256, .f32⟩
  | 6 => ⟨S256x1, .f32⟩
  | 7 => ⟨S256x1, .f32⟩
  | 8 => ⟨S1x1, .f32⟩
  | 9 => ⟨S256x1, .f32⟩
  | 10 => ⟨S256x1, .f32⟩
  | 11 => ⟨S256x1, .f32⟩
  | 12 => ⟨S256x1, .f32⟩
  | 13 => ⟨S_, .f32⟩
  | 14 => ⟨S256x1, .f32⟩
  | 15 => ⟨S256x1, .f32⟩
  | 16 => ⟨S_, .f32⟩
  | 17 => ⟨S256x1, .f32⟩
  | 18 => ⟨S256x1, .f32⟩
  | _ => ⟨S256x200x17x2, .f32⟩

abbrev hbmTy (i : Nat) : BufTy := match i / 128 with
  | 0 => hbmTy0_0 i
  | 1 => hbmTy0_1 i
  | 2 => hbmTy0_2 i
  | _ => ⟨S256x200x17x2, .f32⟩

abbrev bufTy : (tb : Table) → Fin (tcTables nBuf tb) → BufTy
  | .hbm, ⟨i, _⟩ => hbmTy i
  | _, _ => ⟨S256x200x17x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_call0_v0 : Ref sig .tc := ⟨.hbm, 39, rfl⟩
abbrev main_call0_v1 : Ref sig .tc := ⟨.hbm, 40, rfl⟩
abbrev main_v20 : Ref sig .tc := ⟨.hbm, 41, rfl⟩
abbrev main_c_5 : Ref sig .tc := ⟨.hbm, 42, rfl⟩
abbrev main_v21 : Ref sig .tc := ⟨.hbm, 43, rfl⟩
abbrev main_v22 : Ref sig .tc := ⟨.hbm, 44, rfl⟩
abbrev main_c_6 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_7 : Ref sig .tc := ⟨.hbm, 51, rfl⟩
abbrev main_v28 : Ref sig .tc := ⟨.hbm, 52, rfl⟩
abbrev main_v29 : Ref sig .tc := ⟨.hbm, 53, rfl⟩
abbrev main_c_8 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_9 : Ref sig .tc := ⟨.hbm, 63, rfl⟩
abbrev main_v38 : Ref sig .tc := ⟨.hbm, 64, rfl⟩
abbrev main_v39 : Ref sig .tc := ⟨.hbm, 65, rfl⟩
abbrev main_c_10 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_11 : Ref sig .tc := ⟨.hbm, 76, rfl⟩
abbrev main_v49 : Ref sig .tc := ⟨.hbm, 77, rfl⟩
abbrev main_c_12 : Ref sig .tc := ⟨.hbm, 78, rfl⟩
abbrev main_v50 : Ref sig .tc := ⟨.hbm, 79, rfl⟩
abbrev main_v51 : Ref sig .tc := ⟨.hbm, 80, rfl⟩
abbrev main_c_13 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_call1_cst : Ref sig .tc := ⟨.hbm, 94, rfl⟩
abbrev main_call1_v0 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_14 : Ref sig .tc := ⟨.hbm, 100, rfl⟩
abbrev main_v68 : Ref sig .tc := ⟨.hbm, 101, rfl⟩
abbrev main_c_15 : Ref sig .tc := ⟨.hbm, 102, rfl⟩
abbrev main_v69 : Ref sig .tc := ⟨.hbm, 103, rfl⟩
abbrev main_v70 : Ref sig .tc := ⟨.hbm, 104, rfl⟩
abbrev main_c_16 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_17 : Ref sig .tc := ⟨.hbm, 110, rfl⟩
abbrev main_v75 : Ref sig .tc := ⟨.hbm, 111, rfl⟩
abbrev main_v76 : Ref sig .tc := ⟨.hbm, 112, rfl⟩
abbrev main_cst_18 : Ref sig .tc := ⟨.hbm, 113, rfl⟩
abbrev main_v77 : Ref sig .tc := ⟨.hbm, 114, rfl⟩
abbrev main_v78 : Ref sig .tc := ⟨.hbm, 115, rfl⟩
abbrev main_cst_19 : Ref sig .tc := ⟨.hbm, 116, rfl⟩
abbrev main_v79 : Ref sig .tc := ⟨.hbm, 117, rfl⟩
abbrev main_v80 : Ref sig .tc := ⟨.hbm, 118, rfl⟩
abbrev main_cst_20 : Ref sig .tc := ⟨.hbm, 119, rfl⟩
abbrev main_call2_v0 : Ref sig .tc := ⟨.hbm, 120, rfl⟩
abbrev main_call2_v1 : Ref sig .tc := ⟨.hbm, 121, rfl⟩
abbrev main_v81 : Ref sig .tc := ⟨.hbm, 122, rfl⟩
abbrev main_c_21 : Ref sig .tc := ⟨.hbm, 123, rfl⟩
abbrev main_v82 : Ref sig .tc := ⟨.hbm, 124, rfl⟩
abbrev main_v83 : Ref sig .tc := ⟨.hbm, 125, rfl⟩
abbrev main_c_22 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_c_23 : Ref sig .tc := ⟨.hbm, 132, rfl⟩
abbrev main_v89 : Ref sig .tc := ⟨.hbm, 133, rfl⟩
abbrev main_v90 : Ref sig .tc := ⟨.hbm, 134, rfl⟩
abbrev main_c_24 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_c_25 : Ref sig .tc := ⟨.hbm, 144, rfl⟩
abbrev main_v99 : Ref sig .tc := ⟨.hbm, 145, rfl⟩
abbrev main_v100 : Ref sig .tc := ⟨.hbm, 146, rfl⟩
abbrev main_c_26 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_cst_27 : Ref sig .tc := ⟨.hbm, 157, rfl⟩
abbrev main_v110 : Ref sig .tc := ⟨.hbm, 158, rfl⟩
abbrev main_c_28 : Ref sig .tc := ⟨.hbm, 159, rfl⟩
abbrev main_v111 : Ref sig .tc := ⟨.hbm, 160, rfl⟩
abbrev main_v112 : Ref sig .tc := ⟨.hbm, 161, rfl⟩
abbrev main_c_29 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_call3_cst : Ref sig .tc := ⟨.hbm, 175, rfl⟩
abbrev main_call3_v0 : Ref sig .tc := ⟨.hbm, 176, rfl⟩
abbrev main_v125 : Ref sig .tc := ⟨.hbm, 177, rfl⟩
abbrev main_cst_30 : Ref sig .tc := ⟨.hbm, 178, rfl⟩
abbrev main_v126 : Ref sig .tc := ⟨.hbm, 179, rfl⟩
abbrev main_cst_31 : Ref sig .tc := ⟨.hbm, 180, rfl⟩
abbrev main_v127 : Ref sig .tc := ⟨.hbm, 181, rfl⟩
abbrev main_v128 : Ref sig .tc := ⟨.hbm, 182, rfl⟩
abbrev main_cst_32 : Ref sig .tc := ⟨.hbm, 183, rfl⟩
abbrev main_v129 : Ref sig .tc := ⟨.hbm, 184, rfl⟩
abbrev main_cst_33 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_cst_34 : Ref sig .tc := ⟨.hbm, 190, rfl⟩
abbrev main_v134 : Ref sig .tc := ⟨.hbm, 191, rfl⟩
abbrev main_c_35 : Ref sig .tc := ⟨.hbm, 192, rfl⟩
abbrev main_v135_0 : Ref sig .tc := ⟨.hbm, 193, rfl⟩
abbrev main_v135_1 : Ref sig .tc := ⟨.hbm, 194, rfl⟩
abbrev main_v135_2 : Ref sig .tc := ⟨.hbm, 195, rfl⟩
abbrev main_v135_3 : Ref sig .tc := ⟨.hbm, 196, rfl⟩
abbrev main_v135_4 : Ref sig .tc := ⟨.hbm, 197, rfl⟩
abbrev main_v135_5 : Ref sig .tc := ⟨.hbm, 198, rfl⟩
abbrev main_v135_6 : Ref sig .tc := ⟨.hbm, 199, rfl⟩
abbrev main_v135_7 : Ref sig .tc := ⟨.hbm, 200, rfl⟩
abbrev main_v135_8 : Ref sig .tc := ⟨.hbm, 201, rfl⟩
abbrev main_while0c_c_47 : Ref sig .tc := ⟨.hbm, 202, rfl⟩
abbrev main_while0c_v149 : Ref sig .tc := ⟨.hbm, 203, rfl⟩
abbrev main_while0b_call4_c : Ref sig .tc := ⟨.hbm, 204, rfl⟩
abbrev main_while0b_call4_c_0 : Ref sig .tc := ⟨.hbm, 205, rfl⟩
abbrev main_while0b_call4_v0 : Ref sig .tc := ⟨.hbm, 206, rfl⟩
abbrev main_while0b_v149 : Ref sig .tc := ⟨.hbm, 207, rfl⟩
abbrev main_while0b_v150 : Ref sig .tc := ⟨.hbm, 208, rfl⟩
abbrev main_while0b_v151 : Ref sig .tc := ⟨.hbm, 209, rfl⟩
abbrev main_while0b_v152 : Ref sig .tc := ⟨.hbm, 210, rfl⟩
abbrev main_while0b_v153 : Ref sig .tc := ⟨.hbm, 211, rfl⟩
abbrev main_while0b_v154 : Ref sig .tc := ⟨.hbm, 212, rfl⟩
abbrev main_while0b_v155 : Ref sig .tc := ⟨.hbm, 213, rfl⟩
abbrev main_while0b_v156 : Ref sig .tc := ⟨.hbm, 214, rfl⟩
abbrev main_while0b_v157 : Ref sig .tc := ⟨.hbm, 215, rfl⟩
abbrev main_while0b_v158 : Ref sig .tc := ⟨.hbm, 216, rfl⟩
abbrev main_while0b_v159 : Ref sig .tc := ⟨.hbm, 217, rfl⟩
abbrev main_while0b_v160 : Ref sig .tc := ⟨.hbm, 218, rfl⟩
abbrev main_while0b_v161 : Ref sig .tc := ⟨.hbm, 219, rfl⟩
abbrev main_while0b_v162 : Ref sig .tc := ⟨.hbm, 220, rfl⟩
abbrev main_while0b_v163 : Ref sig .tc := ⟨.hbm, 221, rfl⟩
abbrev main_while0b_v164 : Ref sig .tc := ⟨.hbm, 222, rfl⟩
abbrev main_while0b_v165 : Ref sig .tc := ⟨.hbm, 223, rfl⟩
abbrev main_while0b_v166 : Ref sig .tc := ⟨.hbm, 224, rfl⟩
abbrev main_while0b_cst_47 : Ref sig .tc := ⟨.hbm, 225, rfl⟩
abbrev main_while0b_v167 : Ref sig .tc := ⟨.hbm, 226, rfl⟩
abbrev main_while0b_v168 : Ref sig .tc := ⟨.hbm, 227, rfl⟩
abbrev main_while0b_cst_48 : Ref sig .tc := ⟨.hbm, 228, rfl⟩
abbrev main_while0b_v169 : Ref sig .tc := ⟨.hbm, 229, rfl⟩
abbrev main_while0b_v170 : Ref sig .tc := ⟨.hbm, 230, rfl⟩
abbrev main_while0b_v171 : Ref sig .tc := ⟨.hbm, 231, rfl⟩
abbrev main_while0b_v172 : Ref sig .tc := ⟨.hbm, 232, rfl⟩
abbrev main_while0b_cst_49 : Ref sig .tc := ⟨.hbm, 233, rfl⟩
abbrev main_while0b_v173 : Ref sig .tc := ⟨.hbm, 234, rfl⟩
abbrev main_while0b_v174 : Ref sig .tc := ⟨.hbm, 235, rfl⟩
abbrev main_while0b_cst_50 : Ref sig .tc := ⟨.hbm, 236, rfl⟩
abbrev main_while0b_v175 : Ref sig .tc := ⟨.hbm, 237, rfl⟩
abbrev main_while0b_v176 : Ref sig .tc := ⟨.hbm, 238, rfl⟩
abbrev main_while0b_v177 : Ref sig .tc := ⟨.hbm, 239, rfl⟩
abbrev main_while0b_v178 : Ref sig .tc := ⟨.hbm, 240, rfl⟩
abbrev main_while0b_v179 : Ref sig .tc := ⟨.hbm, 241, rfl⟩
abbrev main_while0b_cst_51 : Ref sig .tc := ⟨.hbm, 242, rfl⟩
abbrev main_while0b_v180 : Ref sig .tc := ⟨.hbm, 243, rfl⟩
abbrev main_while0b_v181 : Ref sig .tc := ⟨.hbm, 244, rfl⟩
abbrev main_while0b_cst_52 : Ref sig .tc := ⟨.hbm, 245, rfl⟩
abbrev main_while0b_v182 : Ref sig .tc := ⟨.hbm, 246, rfl⟩
abbrev main_while0b_v183 : Ref sig .tc := ⟨.hbm, 247, rfl⟩
abbrev main_while0b_v184 : Ref sig .tc := ⟨.hbm, 248, rfl⟩
abbrev main_while0b_v185 : Ref sig .tc := ⟨.hbm, 249, rfl⟩
abbrev main_while0b_v186 : Ref sig .tc := ⟨.hbm, 250, rfl⟩
abbrev main_while0b_v187 : Ref sig .tc := ⟨.hbm, 251, rfl⟩
abbrev main_while0b_v188 : Ref sig .tc := ⟨.hbm, 252, rfl⟩
abbrev main_while0b_call5_v0 : Ref sig .tc := ⟨.hbm, 253, rfl⟩
abbrev main_while0b_call5_c : Ref sig .tc := ⟨.hbm, 254, rfl⟩
abbrev main_while0b_call5_c_0 : Ref sig .tc := ⟨.hbm, 255, rfl⟩
abbrev main_while0b_v189 : Ref sig .tc := ⟨.hbm, 256, rfl⟩
abbrev main_while0b_c_53 : Ref sig .tc := ⟨.hbm, 257, rfl⟩
abbrev main_while0b_v190 : Ref sig .tc := ⟨.hbm, 258, rfl⟩
abbrev main_v136 : Ref sig .tc := ⟨.hbm, 259, rfl⟩
abbrev main_cst_36 : Ref sig .tc := ⟨.hbm, 260, rfl⟩
abbrev main_v137 : Ref sig .tc := ⟨.hbm, 261, rfl⟩
abbrev main_v138 : Ref sig .tc := ⟨.hbm, 262, rfl⟩
abbrev main_v139 : Ref sig .tc := ⟨.hbm, 263, rfl⟩
abbrev main_v140 : Ref sig .tc := ⟨.hbm, 264, rfl⟩
abbrev main_v141 : Ref sig .tc := ⟨.hbm, 265, rfl⟩
abbrev main_v142 : Ref sig .tc := ⟨.hbm, 266, rfl⟩
abbrev main_v143 : Ref sig .tc := ⟨.hbm, 267, rfl⟩
abbrev main_v144 : Ref sig .tc := ⟨.hbm, 268, rfl⟩
abbrev main_cst_37 : Ref sig .tc := ⟨.hbm, 269, rfl⟩
abbrev main_v145 : Ref sig .tc := ⟨.hbm, 270, rfl⟩
abbrev main_v146 : Ref sig .tc := ⟨.hbm, 271, rfl⟩
abbrev main_cst_38 : Ref sig .tc := ⟨.hbm, 272, rfl⟩
abbrev main_v147 : Ref sig .tc := ⟨.hbm, 273, rfl⟩
abbrev main_v148 : Ref sig .tc := ⟨.hbm, 274, rfl⟩

abbrev nD : Nat := 1
abbrev τ : Topo := Topo.v7x

variable {F : FTy → Type} [FloatOps F]

abbrev main_while0_count : Scf.Loop 32 := ⟨0#32, 200#32, 1#32⟩
-- ==== Proof.Spec.lean ====
module

public import Idealize.ShloMosaic.PureOps.Ideal

/-! # The network both programs compute

A graph network over 17 nodes at every time step, followed by a recurrent cell over 200 steps, a maximum
over time and one logistic unit, written index by index over the extended reals. Neither program occurs here. -/

@[expose] public section

noncomputable section

namespace Net

open Idealize.ShloMosaic

/-- The node an edge word names. -/
def node (w : BitVec 32) : Fin 17 := ⟨w.toNat % 17, Nat.mod_lt _ (by norm_num)⟩

/-- How often `j → n` occurs among the edges, the loop at each node counted once more. -/
def cnt (r c : Fin 17 → Fin 17) (n j : Fin 17) : ℝ :=
  (∑ e : Fin 17, if c e = n ∧ r e = j then (1 : ℝ) else 0) + if n = j then 1 else 0

/-- The degree of a node. -/
def deg (r c : Fin 17 → Fin 17) (n : Fin 17) : ℝ := ∑ j, cnt r c n j

/-- One over the root of the degree. -/
def dinv (r c : Fin 17 → Fin 17) (n : Fin 17) : ℝ := (√(deg r c n))⁻¹

/-- The normalised adjacency matrix. -/
def adj (r c : Fin 17 → Fin 17) (n j : Fin 17) : ℝ := dinv r c n * cnt r c n j * dinv r c j

/-- What the network is given: the features at each time, the graph and the weights. -/
structure Data where
  x : Fin 256 → ℕ → Fin 17 → Fin 2 → EReal
  row : Fin 17 → Fin 17
  col : Fin 17 → Fin 17
  w1 : Fin 2 → Fin 128 → EReal
  b1 : Fin 128 → EReal
  w2 : Fin 128 → Fin 128 → EReal
  b2 : Fin 128 → EReal
  wih : Fin 1024 → Fin 128 → EReal
  bih : Fin 1024 → EReal
  whh : Fin 1024 → Fin 256 → EReal
  bhh : Fin 1024 → EReal
  fcw : Fin 256 → EReal
  fcb : EReal

namespace Data

variable (D : Data)

/-- The adjacency matrix of the given graph, as extended reals. -/
def A (n j : Fin 17) : EReal := ((adj D.row D.col n j : ℝ) : EReal)

/-- The first graph layer. -/
def hid1 (b : Fin 256) (t : ℕ) (n : Fin 17) (h : Fin 128) : EReal :=
  max ((∑ j, D.A n j * ∑ k, D.x b t j k * D.w1 k h) + D.b1 h) 0

/-- The second graph layer. -/
def hid2 (b : Fin 256) (t : ℕ) (n : Fin 17) (h : Fin 128) : EReal :=
  max ((∑ j, D.A n j * ∑ k, D.hid1 b t j k * D.w2 k h) + D.b2 h) 0

/-- The mean over the nodes. -/
def pooled (b : Fin 256) (t : ℕ) (h : Fin 128) : EReal :=
  (∑ n, D.hid2 b t n h) * ((1 / 17 : ℝ) : EReal)

/-- One gate of the recurrent cell, before its nonlinearity. -/
def gate (b : Fin 256) (t : ℕ) (hp : Fin 256 → EReal) (g : Fin 1024) : EReal :=
  ((∑ k, D.pooled b t k * D.wih g k) + ∑ j, hp j * D.whh g j) + (D.bih g + D.bhh g)

/-- The cell's memory after a step. -/
def cellNext (b : Fin 256) (t : ℕ) (hp cp : Fin 256 → EReal) (j : Fin 256) : EReal :=
  Ideal.logistic (D.gate b t hp ⟨256 + j, by omega⟩) * cp j
    + Ideal.logistic (D.gate b t hp ⟨j, by omega⟩) * Ideal.tanh (D.gate b t hp ⟨512 + j, by omega⟩)

/-- The cell's output after a step. -/
def hidNext (b : Fin 256) (t : ℕ) (hp cp : Fin 256 → EReal) (j : Fin 256) : EReal :=
  Ideal.logistic (D.gate b t hp ⟨768 + j, by omega⟩) * Ideal.tanh (D.cellNext b t hp cp j)

/-- The cell after `t` steps: output and memory. -/
def state (b : Fin 256) : ℕ → (Fin 256 → EReal) × (Fin 256 → EReal)
  | 0 => (fun _ => 0, fun _ => 0)
  | t + 1 => (D.hidNext b t (state b t).1 (state b t).2, D.cellNext b t (state b t).1 (state b t).2)

/-- The largest output so far. -/
def best (b : Fin 256) : ℕ → Fin 256 → EReal
  | 0 => fun _ => ⊥
  | t + 1 => fun j => max (best b t j) ((D.state b (t + 1)).1 j)

/-- The network's result. -/
def out (b : Fin 256) : EReal := Ideal.logistic ((∑ j, D.best b 200 j * D.fcw j) + D.fcb)

end Data

end Net
-- ==== Proof.Graph.lean ====
module

public import proofs.«01_k».proof.Proof.Spec

/-! # The normalised adjacency matrix, and summing over edges with it -/

@[expose] public section

noncomputable section

namespace Net

open Idealize.ShloMosaic

theorem cnt_nonneg (r c : Fin 17 → Fin 17) (n j : Fin 17) : 0 ≤ cnt r c n j := by
  unfold cnt
  refine add_nonneg (Finset.sum_nonneg fun e _ => ?_) ?_ <;> split <;> norm_num

/-- Counting by sources gives the number of edges into a node and its loop. -/
theorem deg_eq (r c : Fin 17 → Fin 17) (n : Fin 17) :
    deg r c n = (∑ e : Fin 17, if c e = n then (1 : ℝ) else 0) + 1 := by
  unfold deg cnt
  rw [Finset.sum_add_distrib, Finset.sum_comm]
  congr 1
  · refine Finset.sum_congr rfl fun e _ => ?_
    by_cases h : c e = n <;> simp [h]
  · simp

theorem deg_pos (r c : Fin 17 → Fin 17) (n : Fin 17) : 0 < deg r c n := by
  rw [deg_eq]
  refine add_pos_of_nonneg_of_pos (Finset.sum_nonneg fun e _ => ?_) one_pos
  split <;> norm_num

theorem dinv_nonneg (r c : Fin 17 → Fin 17) (n : Fin 17) : 0 ≤ dinv r c n :=
  inv_nonneg.2 (Real.sqrt_nonneg _)

/-- A finite sum of nonnegative reals times an extended real. -/
theorem sum_coe_mul {ι : Type} (s : Finset ι) (f : ι → ℝ) (hf : ∀ i, 0 ≤ f i) (y : EReal) :
    ((∑ i ∈ s, f i : ℝ) : EReal) * y = ∑ i ∈ s, (f i : EReal) * y := by
  classical
  induction s using Finset.induction_on with
  | empty => simp
  | insert a s ha ih =>
    rw [Finset.sum_insert ha, Finset.sum_insert ha, EReal.coe_add,
      EReal.right_distrib_of_nonneg (EReal.coe_nonneg.2 (hf a)) (EReal.coe_nonneg.2 (Finset.sum_nonneg fun i _ => hf i)), ih]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Summing over the edges into `n`, each with its normalisation, and over the loop at `n`, is the row `n` of
    the adjacency matrix. -/
theorem sum_edges (r c : Fin 17 → Fin 17) (n : Fin 17) (y : Fin 17 → EReal) :
    (∑ e : Fin 17, if c e = n then ((dinv r c (r e) : ℝ) : EReal) * ((dinv r c (c e) : ℝ) : EReal) * y (r e) else 0)
      + (∑ e : Fin 17, if e = n then ((dinv r c e : ℝ) : EReal) * ((dinv r c e : ℝ) : EReal) * y e else 0)
      = ∑ j, ((adj r c n j : ℝ) : EReal) * y j := by
  have hA : ∀ j, ((adj r c n j : ℝ) : EReal) * y j
      = (∑ e : Fin 17, if c e = n ∧ r e = j then ((dinv r c n * dinv r c j : ℝ) : EReal) * y j else 0)
        + if n = j then ((dinv r c n * dinv r c j : ℝ) : EReal) * y j else 0 := by
    intro j
    have h0 : 0 ≤ dinv r c n * dinv r c j := mul_nonneg (dinv_nonneg r c n) (dinv_nonneg r c j)
    have e1 : adj r c n j = (∑ e : Fin 17, if c e = n ∧ r e = j then dinv r c n * dinv r c j else 0)
        + if n = j then dinv r c n * dinv r c j else 0 := by
      unfold adj cnt
      rw [mul_add, add_mul, Finset.mul_sum, Finset.sum_mul]
      congr 1
      · refine Finset.sum_congr rfl fun e _ => ?_
        split <;> ring
      · split <;> ring
    rw [e1, EReal.coe_add, EReal.right_distrib_of_nonneg, sum_coe_mul]
    · congr 1
      · refine Finset.sum_congr rfl fun e _ => ?_
        split <;> simp
      · split <;> simp
    · intro e; split <;> [exact h0; exact le_rfl]
    · refine EReal.coe_nonneg.2 (Finset.sum_nonneg fun e _ => ?_)
      split <;> [exact h0; exact le_rfl]
    · refine EReal.coe_nonneg.2 ?_
      split <;> [exact h0; exact le_rfl]
  rw [Finset.sum_congr rfl fun j _ => hA j, Finset.sum_add_distrib, Finset.sum_comm]
  congr 1
  · refine Finset.sum_congr rfl fun e _ => ?_
    by_cases h : c e = n
    · subst h
      simp [EReal.coe_mul, mul_comm]
    · simp [h]
  · simp [EReal.coe_mul]

end Net
-- ==== Proof.KStep.lean ====
module

public import proofs.«01_k».proof.Proof.Graph
public import proofs.«01_k».proof.Proof.Gen.KernelIdeal.Skeleton
public import Idealize.ShloMosaic.Lib.Pointwise
public import Idealize.ShloMosaic.Lib.Tactic.CleanTypes

/-! # One time step of the kernel, read at an index -/

@[expose] public section

set_option maxRecDepth 16384

noncomputable section

namespace Net.Ker

open Cert.KernelIdeal Cert.KernelIdeal.Gen
open Idealize.ShloMosaic

/-- The adjacency matrix applied to one step's features. -/
def axT (a : FVec Ideal S17x17 .f32) (x : FVec Ideal S1x17x512 .f32) : FVec Ideal S17x512 .bf16 :=
  truncf .bf16 (matmul dot_S17x17_S17x512_S17x512_1_0_0_1_n_n none a (shapeCast S17x512 x shapeCasts_S1x17x512_S17x512)
    (constant S17x512 .f32 0x00000000#32)) bitsLt_bf16_f32

/-- One feature of all nodes and samples, times its row of the first weight. -/
def outer0T (y : FVec Ideal S17x512 .bf16) (w : FVec Ideal S2x128 .bf16) : FVec Ideal S17x256x128 .bf16 :=
  mulf (broadcastTo S17x256x128 (shapeCast S17x256x1 (extractStridedSlice S17x256 ![0, 0] y slices_S17x512_o0_0_S17x256) shapeCasts_S17x256_S17x256x1) broadcasts_S17x256x1_S17x256x128)
    (broadcastTo S17x256x128 (shapeCast S1x1x128 (shapeCast S128 (extractStridedSlice S1x128 ![0, 0] w slices_S2x128_o0_0_S1x128) shapeCasts_S1x128_S128) shapeCasts_S128_S1x1x128) broadcasts_S1x1x128_S17x256x128)

/-- The other feature, likewise. -/
def outer1T (y : FVec Ideal S17x512 .bf16) (w : FVec Ideal S2x128 .bf16) : FVec Ideal S17x256x128 .bf16 :=
  mulf (broadcastTo S17x256x128 (shapeCast S17x256x1 (extractStridedSlice S17x256 ![0, 256] y slices_S17x512_o0_256_S17x256) shapeCasts_S17x256_S17x256x1) broadcasts_S17x256x1_S17x256x128)
    (broadcastTo S17x256x128 (shapeCast S1x1x128 (shapeCast S128 (extractStridedSlice S1x128 ![1, 0] w slices_S2x128_o1_0_S1x128) shapeCasts_S1x128_S128) shapeCasts_S128_S1x1x128) broadcasts_S1x1x128_S17x256x128)

/-- The first layer. -/
def hid1T (y : FVec Ideal S17x512 .bf16) (w : FVec Ideal S2x128 .bf16) (b : FVec Ideal S1x128 .bf16) : FVec Ideal S4352x128 .bf16 :=
  maximumf (addf (shapeCast S4352x128 (addf (outer0T y w) (outer1T y w)) shapeCasts_S17x256x128_S4352x128)
    (broadcastTo S4352x128 b broadcasts_S1x128_S4352x128)) (broadcast S4352x128 (Scalar.ofBits .bf16 0x0000#16))

/-- The second layer. -/
def hid2T (a : FVec Ideal S17x17 .bf16) (h : FVec Ideal S4352x128 .bf16) (w : FVec Ideal S128x128 .bf16) (b : FVec Ideal S1x32768 .f32) :
    FVec Ideal S17x32768 .f32 :=
  maximumf (addf (matmul dot_S17x17_S17x32768_S17x32768_1_0_0_1_n_n none a
      (shapeCast S17x32768 (truncf .bf16 (matmul dot_S4352x128_S128x128_S4352x128_1_0_0_1_n_n none h w (constant S4352x128 .f32 0x00000000#32)) bitsLt_bf16_f32)
        shapeCasts_S4352x128_S17x32768) (constant S17x32768 .f32 0x00000000#32))
    (broadcastTo S17x32768 b broadcasts_S1x32768_S17x32768)) (broadcast S17x32768 (Scalar.ofBits .f32 0x00000000#32))

/-- The mean over the nodes. -/
def poolT (h : FVec Ideal S17x32768 .f32) : FVec Ideal S256x128 .bf16 :=
  shapeCast S256x128 (truncf .bf16 (mulf (shapeCast S1x32768 (multiReduction .add [0] S32768 h 0x00000000#32 reduces_S17x32768_S32768 (.inl rfl) rfl) shapeCasts_S32768_S1x32768)
    (broadcast S1x32768 (Named.named κ "inv_n" 0x3D70F0F1#32))) bitsLt_bf16_f32) shapeCasts_S1x32768_S256x128

theorem pay14_eq (a : FVec Ideal S17x17 .f32) (a' : FVec Ideal S17x17 .bf16) (w1 : FVec Ideal S2x128 .bf16) (w2 : FVec Ideal S128x128 .bf16)
    (b1 : FVec Ideal S1x128 .bf16) (b2 : FVec Ideal S1x32768 .f32) (x : FVec Ideal S1x17x512 .f32) (w : FVec Ideal S128x1024 .bf16) :
    k0_pay14 a a' w1 w2 b1 b2 x w = matmul dot_S256x128_S128x1024_S256x1024_1_0_0_1_n_n none (poolT (hid2T a' (hid1T (axT a x) w1 b1) w2 b2))
      (shapeCast S128x1024 w shapeCasts_S128x1024_S128x1024) (constant S256x1024 .f32 0x00000000#32) := rfl

theorem axT_apply (a : FVec Ideal S17x17 .f32) (x : FVec Ideal S1x17x512 .f32) (n : Fin 17) (l : Fin 512) :
    axT a x (ix2 n l) = ∑ j : Fin 17, a (ix2 n j) * x (ix3 0 j l) := by
  unfold axT
  pointwise

theorem hid1T_apply (y : FVec Ideal S17x512 .bf16) (w : FVec Ideal S2x128 .bf16) (b : FVec Ideal S1x128 .bf16) (n : Fin 17) (s : Fin 256) (h : Fin 128) :
    hid1T y w b (ix2 ⟨n * 256 + s, by omega⟩ h)
      = max (y (ix2 n ⟨s, by omega⟩) * w (ix2 0 h) + y (ix2 n ⟨256 + s, by omega⟩) * w (ix2 1 h) + b (ix2 0 h)) 0 := by
  unfold hid1T outer0T outer1T
  pointwise

theorem hid2T_apply (a : FVec Ideal S17x17 .bf16) (h : FVec Ideal S4352x128 .bf16) (w : FVec Ideal S128x128 .bf16) (b : FVec Ideal S1x32768 .f32)
   (n : Fin 17) (s : Fin 256) (k : Fin 128) :
    hid2T a h w b (ix2 n ⟨s * 128 + k, by omega⟩)
     = max ((∑ j : Fin 17, a (ix2 n j) * ∑ i : Fin 128, h (ix2 ⟨j * 256 + s, by omega⟩ i) * w (ix2 i k)) + b (ix2 0 ⟨s * 128 + k, by omega⟩)) 0 := by
  unfold hid2T
  pointwise
  have e : (s.val * 128 + k.val) / 128 = s.val := by omega
  simp only [e]

theorem poolT_apply (h : FVec Ideal S17x32768 .f32) (s : Fin 256) (k : Fin 128) :
    poolT h (ix2 s k) = (∑ n : Fin 17, h (ix2 n ⟨s * 128 + k, by omega⟩)) * ((1 / 17 : ℝ) : EReal) := by
  unfold poolT
  pointwise
  rfl

/-- The gates before their nonlinearities, at an index. -/
theorem pay16_apply (p : FVec Ideal S256x1024 .f32) (h : FVec Ideal S256x256 .bf16) (w : FVec Ideal S256x1024 .bf16) (q : FVec Ideal S1x1024 .f32)
    (b : Fin 256) (g : Fin 1024) :
    k0_pay16 p h w q (ix2 b g) = p (ix2 b g) + (∑ j : Fin 256, h (ix2 b j) * w (ix2 j g)) + q (ix2 0 g) := by
  unfold k0_pay16
  pointwise

theorem pay18_apply (p : FVec Ideal S256x1024 .f32) (h : FVec Ideal S256x256 .bf16) (w : FVec Ideal S256x1024 .bf16) (q : FVec Ideal S1x1024 .f32)
    (c : FVec Ideal S256x256 .f32) (b j : Fin 256) :
    k0_pay18 p h w q c (ix2 b j) = Ideal.logistic (k0_pay16 p h w q (ix2 b ⟨256 + j, by omega⟩)) * c (ix2 b j)
      + Ideal.logistic (k0_pay16 p h w q (ix2 b ⟨j, by omega⟩)) * Ideal.tanh (k0_pay16 p h w q (ix2 b ⟨768 + j, by omega⟩)) := by
  unfold k0_pay18 k0_pay17
  pointwise

theorem pay19_apply (p : FVec Ideal S256x1024 .f32) (h : FVec Ideal S256x256 .bf16) (w : FVec Ideal S256x1024 .bf16) (q : FVec Ideal S1x1024 .f32)
    (c : FVec Ideal S256x256 .f32) (b j : Fin 256) :
    k0_pay19 p h w q c (ix2 b j) = Ideal.logistic (k0_pay16 p h w q (ix2 b ⟨512 + j, by omega⟩)) * Ideal.tanh (k0_pay18 p h w q c (ix2 b j)) := by
  unfold k0_pay19 k0_pay17
  pointwise

end Net.Ker
-- ==== Proof.KSteps.lean ====
module

public import proofs.«01_k».proof.Proof.KStep

/-! # The ten unrolled steps of the kernel's body

Each of the ten steps of the body stores the new output, the new memory and the new maximum. The body spells them
with different intermediate values; all of them are one function of the step's slab of features and of the three
arrays carried over. -/

@[expose] public section

set_option maxRecDepth 16384

noncomputable section

namespace Net.Ker

open Cert.KernelIdeal Cert.KernelIdeal.Gen
open Idealize.ShloMosaic

/-- The arrays that every step reads: padded edges, weights and biases. -/
structure Win where
  e : FVec Ideal S8x32 .f32
  w1 : FVec Ideal S2x128 .f32
  b1 : FVec Ideal S1x128 .f32
  w2 : FVec Ideal S128x128 .bf16
  b2 : FVec Ideal S1x32768 .f32
  wih : FVec Ideal S128x1024 .bf16
  whh : FVec Ideal S256x1024 .bf16
  bias : FVec Ideal S1x1024 .f32

/-- The arrays carried from step to step: output, memory and maximum of the outputs. -/
structure Car where
  h : FVec Ideal S256x256 .f32
  c : FVec Ideal S256x256 .f32
  m : FVec Ideal S256x256 .f32

variable (W : Win) (x : FVec Ideal S1x17x512 .f32) (h c m : FVec Ideal S256x256 .f32)

/-- The part of the gates that comes from the features. -/
def Win.inp : FVec Ideal S256x1024 .f32 :=
  k0_pay14 (k0_pay8 W.e) (k0_pay9 W.e) (k0_pay10 W.w1) (k0_pay11 W.w2) (k0_pay12 W.b1) (k0_pay13 W.b2) x W.wih

def Win.newC : FVec Ideal S256x256 .f32 := k0_pay18 (W.inp x) (k0_pay15 h) W.whh W.bias c

def Win.newH : FVec Ideal S256x256 .f32 := k0_pay19 (W.inp x) (k0_pay15 h) W.whh W.bias c

def Win.newM : FVec Ideal S256x256 .f32 := maximumf m (W.newH x h c)

/-- One step. -/
def Win.next (s : Car) : Car := ⟨W.newH x s.h s.c, W.newC x s.h s.c, W.newM x s.h s.c s.m⟩

theorem step0_h : k0_pay21 (k0_pay14 (k0_pay8 W.e) (k0_pay9 W.e) (k0_pay10 W.w1) (k0_pay11 W.w2) (k0_pay12 W.b1) (k0_pay13 W.b2) x W.wih) (k0_pay15 h) W.whh W.bias c = W.newH x h c :=
  (shapeCast_self _ _).trans rfl

theorem step0_c : k0_pay20 (k0_pay14 (k0_pay8 W.e) (k0_pay9 W.e) (k0_pay10 W.w1) (k0_pay11 W.w2) (k0_pay12 W.b1) (k0_pay13 W.b2) x W.wih) (k0_pay15 h) W.whh W.bias c = W.newC x h c :=
  (shapeCast_self _ _).trans rfl

theorem step0_m : k0_pay22 (k0_pay14 (k0_pay8 W.e) (k0_pay9 W.e) (k0_pay10 W.w1) (k0_pay11 W.w2) (k0_pay12 W.b1) (k0_pay13 W.b2) x W.wih) (k0_pay15 h) W.whh W.bias c m = W.newM x h c m :=
  (shapeCast_self _ _).trans rfl

theorem step1_h : k0_pay32 (k0_pay25 (k0_pay9 W.e) (k0_pay10 W.w1) (k0_pay11 W.w2) (k0_pay12 W.b1) (k0_pay13 W.b2) (k0_pay23 (k0_pay8 W.e) x) (k0_pay24 (k0_pay8 W.e) x) W.wih h W.whh) (k0_pay26 W.bias) c = W.newH x h c :=
  (shapeCast_self _ _).trans rfl

theorem step1_c : k0_pay31 (k0_pay25 (k0_pay9 W.e) (k0_pay10 W.w1) (k0_pay11 W.w2) (k0_pay12 W.b1) (k0_pay13 W.b2) (k0_pay23 (k0_pay8 W.e) x) (k0_pay24 (k0_pay8 W.e) x) W.wih h W.whh) (k0_pay26 W.bias) c = W.newC x h c :=
  (shapeCast_self _ _).trans rfl

theorem step1_m : k0_pay33 (k0_pay25 (k0_pay9 W.e) (k0_pay10 W.w1) (k0_pay11 W.w2) (k0_pay12 W.b1) (k0_pay13 W.b2) (k0_pay23 (k0_pay8 W.e) x) (k0_pay24 (k0_pay8 W.e) x) W.wih h W.whh) (k0_pay26 W.bias) c m = W.newM x h c m :=
  (shapeCast_self _ _).trans rfl

theorem step2_h : k0_pay47 (k0_pay40 (k0_pay9 W.e) (k0_pay11 W.w2) (k0_pay12 W.b1) (k0_pay13 W.b2) (k0_pay35 (k0_pay8 W.e) (k0_pay10 W.w1) x) (k0_pay36 (k0_pay8 W.e) x) (k0_pay37 (k0_pay10 W.w1)) W.wih h W.whh W.bias) (k0_pay41 (k0_pay9 W.e) (k0_pay11 W.w2) (k0_pay12 W.b1) (k0_pay13 W.b2) (k0_pay35 (k0_pay8 W.e) (k0_pay10 W.w1) x) (k0_pay36 (k0_pay8 W.e) x) (k0_pay37 (k0_pay10 W.w1)) W.wih h W.whh W.bias) (k0_pay42 (k0_pay9 W.e) (k0_pay11 W.w2) (k0_pay12 W.b1) (k0_pay13 W.b2) (k0_pay35 (k0_pay8 W.e) (k0_pay10 W.w1) x) (k0_pay36 (k0_pay8 W.e) x) (k0_pay37 (k0_pay10 W.w1)) W.wih h W.whh W.bias) (k0_pay43 (k0_pay9 W.e) (k0_pay11 W.w2) (k0_pay12 W.b1) (k0_pay13 W.b2) (k0_pay35 (k0_pay8 W.e) (k0_pay10 W.w1) x) (k0_pay36 (k0_pay8 W.e) x) (k0_pay37 (k0_pay10 W.w1)) W.wih h W.whh W.bias) c = W.newH x h c :=
  (shapeCast_self _ _).trans rfl

theorem step2_c : k0_pay46 (k0_pay40 (k0_pay9 W.e) (k0_pay11 W.w2) (k0_pay12 W.b1) (k0_pay13 W.b2) (k0_pay35 (k0_pay8 W.e) (k0_pay10 W.w1) x) (k0_pay36 (k0_pay8 W.e) x) (k0_pay37 (k0_pay10 W.w1)) W.wih h W.whh W.bias) (k0_pay41 (k0_pay9 W.e) (k0_pay11 W.w2) (k0_pay12 W.b1) (k0_pay13 W.b2) (k0_pay35 (k0_pay8 W.e) (k0_pay10 W.w1) x) (k0_pay36 (k0_pay8 W.e) x) (k0_pay37 (k0_pay10 W.w1)) W.wih h W.whh W.bias) (k0_pay42 (k0_pay9 W.e) (k0_pay11 W.w2) (k0_pay12 W.b1) (k0_pay13 W.b2) (k0_pay35 (k0_pay8 W.e) (k0_pay10 W.w1) x) (k0_pay36 (k0_pay8 W.e) x) (k0_pay37 (k0_pay10 W.w1)) W.wih h W.whh W.bias) c = W.newC x h c :=
  (shapeCast_self _ _).trans rfl

theorem step2_m : k0_pay48 (k0_pay40 (k0_pay9 W.e) (k0_pay11 W.w2) (k0_pay12 W.b1) (k0_pay13 W.b2) (k0_pay35 (k0_pay8 W.e) (k0_pay10 W.w1) x) (k0_pay36 (k0_pay8 W.e) x) (k0_pay37 (k0_pay10 W.w1)) W.wih h W.whh W.bias) (k0_pay41 (k0_pay9 W.e) (k0_pay11 W.w2) (k0_pay12 W.b1) (k0_pay13 W.b2) (k0_pay35 (k0_pay8 W.e) (k0_pay10 W.w1) x) (k0_pay36 (k0_pay8 W.e) x) (k0_pay37 (k0_pay10 W.w1)) W.wih h W.whh W.bias) (k0_pay42 (k0_pay9 W.e) (k0_pay11 W.w2) (k0_pay12 W.b1) (k0_pay13 W.b2) (k0_pay35 (k0_pay8 W.e) (k0_pay10 W.w1) x) (k0_pay36 (k0_pay8 W.e) x) (k0_pay37 (k0_pay10 W.w1)) W.wih h W.whh W.bias) (k0_pay43 (k0_pay9 W.e) (k0_pay11 W.w2) (k0_pay12 W.b1) (k0_pay13 W.b2) (k0_pay35 (k0_pay8 W.e) (k0_pay10 W.w1) x) (k0_pay36 (k0_pay8 W.e) x) (k0_pay37 (k0_pay10 W.w1)) W.wih h W.whh W.bias) c m = W.newM x h c m :=
  (shapeCast_self _ _).trans rfl

theorem step3_h : k0_pay55 (k0_pay53 (k0_pay9 W.e) (k0_pay11 W.w2) (k0_pay13 W.b2) (k0_pay49 (k0_pay8 W.e) (k0_pay10 W.w1) (k0_pay12 W.b1) x) W.wih h W.whh W.bias c) = W.newH x h c :=
  (shapeCast_self _ _).trans rfl

theorem step3_c : k0_pay54 (k0_pay52 (k0_pay9 W.e) (k0_pay11 W.w2) (k0_pay13 W.b2) (k0_pay49 (k0_pay8 W.e) (k0_pay10 W.w1) (k0_pay12 W.b1) x) W.wih h W.whh W.bias c) = W.newC x h c :=
  (shapeCast_self _ _).trans rfl

theorem step3_m : k0_pay56 (k0_pay53 (k0_pay9 W.e) (k0_pay11 W.w2) (k0_pay13 W.b2) (k0_pay49 (k0_pay8 W.e) (k0_pay10 W.w1) (k0_pay12 W.b1) x) W.wih h W.whh W.bias c) m = W.newM x h c m :=
  (shapeCast_self _ _).trans rfl

theorem step4_h : k0_pay64 (k0_pay57 (k0_pay8 W.e) (k0_pay9 W.e) (k0_pay10 W.w1) (k0_pay11 W.w2) (k0_pay12 W.b1) (k0_pay13 W.b2) x) k0_pay58 W.wih h W.whh W.bias c = W.newH x h c :=
  (shapeCast_self _ _).trans rfl

theorem step4_c : k0_pay63 (k0_pay57 (k0_pay8 W.e) (k0_pay9 W.e) (k0_pay10 W.w1) (k0_pay11 W.w2) (k0_pay12 W.b1) (k0_pay13 W.b2) x) k0_pay58 W.wih h W.whh W.bias c = W.newC x h c :=
  (shapeCast_self _ _).trans rfl

theorem step4_m : k0_pay65 (k0_pay62 (k0_pay57 (k0_pay8 W.e) (k0_pay9 W.e) (k0_pay10 W.w1) (k0_pay11 W.w2) (k0_pay12 W.b1) (k0_pay13 W.b2) x) k0_pay58 W.wih h W.whh W.bias c) m = W.newM x h c m :=
  (shapeCast_self _ _).trans rfl

theorem step5_h : k0_pay72 (k0_pay66 (k0_pay8 W.e) (k0_pay9 W.e) (k0_pay10 W.w1) (k0_pay11 W.w2) (k0_pay12 W.b1) (k0_pay13 W.b2) x) W.wih h W.whh W.bias c = W.newH x h c :=
  (shapeCast_self _ _).trans rfl

theorem step5_c : k0_pay71 (k0_pay66 (k0_pay8 W.e) (k0_pay9 W.e) (k0_pay10 W.w1) (k0_pay11 W.w2) (k0_pay12 W.b1) (k0_pay13 W.b2) x) W.wih h W.whh W.bias c = W.newC x h c :=
  (shapeCast_self _ _).trans rfl

theorem step5_m : k0_pay73 (k0_pay66 (k0_pay8 W.e) (k0_pay9 W.e) (k0_pay10 W.w1) (k0_pay11 W.w2) (k0_pay12 W.b1) (k0_pay13 W.b2) x) W.wih h W.whh W.bias c m = W.newM x h c m :=
  (shapeCast_self _ _).trans rfl

theorem step6_h : k0_pay81 (k0_pay74 (k0_pay8 W.e) (k0_pay9 W.e) (k0_pay10 W.w1) (k0_pay11 W.w2) (k0_pay12 W.b1) (k0_pay13 W.b2) x W.wih) (k0_pay75 h) W.whh W.bias c = W.newH x h c :=
  (shapeCast_self _ _).trans rfl

theorem step6_c : k0_pay80 (k0_pay74 (k0_pay8 W.e) (k0_pay9 W.e) (k0_pay10 W.w1) (k0_pay11 W.w2) (k0_pay12 W.b1) (k0_pay13 W.b2) x W.wih) (k0_pay75 h) W.whh W.bias c = W.newC x h c :=
  (shapeCast_self _ _).trans rfl

theorem step6_m : k0_pay82 (k0_pay74 (k0_pay8 W.e) (k0_pay9 W.e) (k0_pay10 W.w1) (k0_pay11 W.w2) (k0_pay12 W.b1) (k0_pay13 W.b2) x W.wih) (k0_pay75 h) W.whh W.bias c m = W.newM x h c m :=
  (shapeCast_self _ _).trans rfl

theorem step7_h : k0_pay92 (k0_pay85 (k0_pay9 W.e) (k0_pay10 W.w1) (k0_pay11 W.w2) (k0_pay12 W.b1) (k0_pay13 W.b2) (k0_pay83 (k0_pay8 W.e) x) (k0_pay84 (k0_pay8 W.e) x) W.wih h W.whh) (k0_pay86 W.bias) c = W.newH x h c :=
  (shapeCast_self _ _).trans rfl

theorem step7_c : k0_pay91 (k0_pay85 (k0_pay9 W.e) (k0_pay10 W.w1) (k0_pay11 W.w2) (k0_pay12 W.b1) (k0_pay13 W.b2) (k0_pay83 (k0_pay8 W.e) x) (k0_pay84 (k0_pay8 W.e) x) W.wih h W.whh) (k0_pay86 W.bias) c = W.newC x h c :=
  (shapeCast_self _ _).trans rfl

theorem step7_m : k0_pay93 (k0_pay85 (k0_pay9 W.e) (k0_pay10 W.w1) (k0_pay11 W.w2) (k0_pay12 W.b1) (k0_pay13 W.b2) (k0_pay83 (k0_pay8 W.e) x) (k0_pay84 (k0_pay8 W.e) x) W.wih h W.whh) (k0_pay86 W.bias) c m = W.newM x h c m :=
  (shapeCast_self _ _).trans rfl

theorem step8_h : k0_pay107 (k0_pay100 (k0_pay9 W.e) (k0_pay11 W.w2) (k0_pay12 W.b1) (k0_pay13 W.b2) (k0_pay95 (k0_pay8 W.e) (k0_pay10 W.w1) x) (k0_pay96 (k0_pay8 W.e) x) (k0_pay97 (k0_pay10 W.w1)) W.wih h W.whh W.bias) (k0_pay101 (k0_pay9 W.e) (k0_pay11 W.w2) (k0_pay12 W.b1) (k0_pay13 W.b2) (k0_pay95 (k0_pay8 W.e) (k0_pay10 W.w1) x) (k0_pay96 (k0_pay8 W.e) x) (k0_pay97 (k0_pay10 W.w1)) W.wih h W.whh W.bias) (k0_pay102 (k0_pay9 W.e) (k0_pay11 W.w2) (k0_pay12 W.b1) (k0_pay13 W.b2) (k0_pay95 (k0_pay8 W.e) (k0_pay10 W.w1) x) (k0_pay96 (k0_pay8 W.e) x) (k0_pay97 (k0_pay10 W.w1)) W.wih h W.whh W.bias) (k0_pay103 (k0_pay9 W.e) (k0_pay11 W.w2) (k0_pay12 W.b1) (k0_pay13 W.b2) (k0_pay95 (k0_pay8 W.e) (k0_pay10 W.w1) x) (k0_pay96 (k0_pay8 W.e) x) (k0_pay97 (k0_pay10 W.w1)) W.wih h W.whh W.bias) c = W.newH x h c :=
  (shapeCast_self _ _).trans rfl

theorem step8_c : k0_pay106 (k0_pay100 (k0_pay9 W.e) (k0_pay11 W.w2) (k0_pay12 W.b1) (k0_pay13 W.b2) (k0_pay95 (k0_pay8 W.e) (k0_pay10 W.w1) x) (k0_pay96 (k0_pay8 W.e) x) (k0_pay97 (k0_pay10 W.w1)) W.wih h W.whh W.bias) (k0_pay101 (k0_pay9 W.e) (k0_pay11 W.w2) (k0_pay12 W.b1) (k0_pay13 W.b2) (k0_pay95 (k0_pay8 W.e) (k0_pay10 W.w1) x) (k0_pay96 (k0_pay8 W.e) x) (k0_pay97 (k0_pay10 W.w1)) W.wih h W.whh W.bias) (k0_pay102 (k0_pay9 W.e) (k0_pay11 W.w2) (k0_pay12 W.b1) (k0_pay13 W.b2) (k0_pay95 (k0_pay8 W.e) (k0_pay10 W.w1) x) (k0_pay96 (k0_pay8 W.e) x) (k0_pay97 (k0_pay10 W.w1)) W.wih h W.whh W.bias) c = W.newC x h c :=
  (shapeCast_self _ _).trans rfl

theorem step8_m : k0_pay108 (k0_pay100 (k0_pay9 W.e) (k0_pay11 W.w2) (k0_pay12 W.b1) (k0_pay13 W.b2) (k0_pay95 (k0_pay8 W.e) (k0_pay10 W.w1) x) (k0_pay96 (k0_pay8 W.e) x) (k0_pay97 (k0_pay10 W.w1)) W.wih h W.whh W.bias) (k0_pay101 (k0_pay9 W.e) (k0_pay11 W.w2) (k0_pay12 W.b1) (k0_pay13 W.b2) (k0_pay95 (k0_pay8 W.e) (k0_pay10 W.w1) x) (k0_pay96 (k0_pay8 W.e) x) (k0_pay97 (k0_pay10 W.w1)) W.wih h W.whh W.bias) (k0_pay102 (k0_pay9 W.e) (k0_pay11 W.w2) (k0_pay12 W.b1) (k0_pay13 W.b2) (k0_pay95 (k0_pay8 W.e) (k0_pay10 W.w1) x) (k0_pay96 (k0_pay8 W.e) x) (k0_pay97 (k0_pay10 W.w1)) W.wih h W.whh W.bias) (k0_pay103 (k0_pay9 W.e) (k0_pay11 W.w2) (k0_pay12 W.b1) (k0_pay13 W.b2) (k0_pay95 (k0_pay8 W.e) (k0_pay10 W.w1) x) (k0_pay96 (k0_pay8 W.e) x) (k0_pay97 (k0_pay10 W.w1)) W.wih h W.whh W.bias) c m = W.newM x h c m :=
  (shapeCast_self _ _).trans rfl

theorem step9_h : k0_pay2 (k0_pay113 (k0_pay9 W.e) (k0_pay11 W.w2) (k0_pay13 W.b2) (k0_pay109 (k0_pay8 W.e) (k0_pay10 W.w1) (k0_pay12 W.b1) x) W.wih h W.whh W.bias c) = W.newH x h c :=
  (shapeCast_self _ _).trans rfl

theorem step9_c : k0_pay1 (k0_pay112 (k0_pay9 W.e) (k0_pay11 W.w2) (k0_pay13 W.b2) (k0_pay109 (k0_pay8 W.e) (k0_pay10 W.w1) (k0_pay12 W.b1) x) W.wih h W.whh W.bias c) = W.newC x h c :=
  (shapeCast_self _ _).trans rfl

theorem step9_m : k0_pay3 (k0_pay113 (k0_pay9 W.e) (k0_pay11 W.w2) (k0_pay13 W.b2) (k0_pay109 (k0_pay8 W.e) (k0_pay10 W.w1) (k0_pay12 W.b1) x) W.wih h W.whh W.bias c) m = W.newM x h c m :=
  (shapeCast_self _ _).trans rfl

end Net.Ker
-- ==== Proof.KChain.lean ====
module

public import proofs.«01_k».proof.Proof.KSteps
public import proofs.«01_k».proof.Proof.Gen.KernelIdeal.Value

/-! # The chain of steps in one grid point -/

@[expose] public section

set_option maxRecDepth 16384

noncomputable section

namespace Net.Ker

open Cert.KernelIdeal Cert.KernelIdeal.Gen
open Idealize.ShloMosaic

/-- The features of one step among the ten of a block. -/
def slab (x : FVec Ideal S10x17x512 .f32) (k : Fin 10) : FVec Ideal S1x17x512 .f32 :=
  fun i => x (ix3 k (i 1) (i 2))

theorem row_lt {k : ℕ} (h : ∀ a, (![k, 0, 0] : Fin 3 → ℕ) a + (![1, 17, 512] : Fin 3 → ℕ) a ≤ S10x17x512.size a) : k < 10 := by
  have := h 0
  change k + 1 ≤ 10 at this
  omega

/-- Reading row `k` of the block is its slab. -/
theorem ld_slab (x : FVec Ideal S10x17x512 .f32) (k : ℕ)
    (h : ∀ a, (![k, 0, 0] : Fin 3 → ℕ) a + (![1, 17, 512] : Fin 3 → ℕ) a ≤ S10x17x512.size a) :
    View.ld (Val := Elt Ideal) (e' := .f32) x (Rect.unit (s := S10x17x512) ![k, 0, 0] ![1, 17, 512] h) = slab x ⟨k, row_lt h⟩ := by
  funext i
  refine congrArg x (funext fun a => Fin.ext ?_)
  have h0 : (i 0).val = 0 := by have := (i 0).isLt; change _ < 1 at this; omega
  fin_cases a
  · show k + 1 * (i 0).val = k
    omega
  · show 0 + 1 * (i 1).val = (i 1).val
    omega
  · show 0 + 1 * (i 2).val = (i 2).val
    omega

theorem off_zero : (![0, 0] : Fin 2 → Nat) = fun _ => 0 := funext fun a => by fin_cases a <;> rfl

/-- What the carried arrays are after `k` of the block's steps. -/
def chain (W : Win) (x : FVec Ideal S10x17x512 .f32) (s : Car) : ℕ → Car
  | 0 => s
  | k + 1 => W.next (slab x ⟨k % 10, Nat.mod_lt _ (by norm_num)⟩) (chain W x s k)

/-- The carried arrays at the first point: zeros, and the least number for the maximum. -/
def start : Car := ⟨k0_pay5 (F := Ideal), k0_pay6 (F := Ideal), k0_pay7 (F := Ideal)⟩

end Net.Ker
-- ==== Proof.KRunA.lean ====
module

public import proofs.«01_k».proof.Proof.KChain

/-! # What the body's run leaves: the first grid point

Every array that a step reads back is the one that the step before stored, so the run leaves the chain of ten steps. -/

@[expose] public section

set_option maxRecDepth 16384

noncomputable section

namespace Net.Ker

open Cert.KernelIdeal Cert.KernelIdeal.Gen
open Idealize.ShloMosaic Idealize.ShloMosaic.TcCoe

variable (c : Dev nD) (i : grid0.Coords) (arg1 : Memref sig .tc .vmem S10x17x512 .f32) (harg1 : arg1.IsWhole) (arg2 : Memref sig .tc .vmem S8x32 .f32) (harg2 : arg2.IsWhole) (arg3 : Memref sig .tc .vmem S2x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x32768 .f32) (harg6 : arg6.IsWhole) (arg7 : Memref sig .tc .vmem S128x1024 .bf16) (harg7 : arg7.IsWhole) (arg8 : Memref sig .tc .vmem S256x1024 .bf16) (harg8 : arg8.IsWhole) (arg9 : Memref sig .tc .vmem S1x1024 .f32) (harg9 : arg9.IsWhole) (arg10 : Memref sig .tc .vmem S256x1 .f32) (harg10 : arg10.IsWhole) (arg11 : Memref sig .tc .vmem S1x1 .f32) (harg11 : arg11.IsWhole) (arg12 : Memref sig .tc .vmem S256x1 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (hc0 : cond0_0 i) (hc1 : ¬cond0_1 i)
    (x0 : Vec Ideal S10x17x512 .f32) (x1 : Vec Ideal S8x32 .f32) (x2 : Vec Ideal S2x128 .f32) (x3 : Vec Ideal S1x128 .f32) (x4 : Vec Ideal S128x128 .bf16) (x5 : Vec Ideal S1x32768 .f32) (x6 : Vec Ideal S128x1024 .bf16) (x7 : Vec Ideal S256x1024 .bf16) (x8 : Vec Ideal S1x1024 .f32) (x9 : Vec Ideal S256x1 .f32) (x10 : Vec Ideal S1x1 .f32)

theorem v84_A : kernelRun0_A.sl.v84 (F := Ideal) c arg13 = start.h := by
  unfold kernelRun0_A.sl.v84 kernelRun0_A.sl.HS0_1
  exact View.readCov_cons_toLoadRect _ _ _ _

theorem v101_A : kernelRun0_A.sl.v101 (F := Ideal) c arg14 = start.c := by
  unfold kernelRun0_A.sl.v101 kernelRun0_A.sl.HS1_1
  exact View.readCov_cons_toLoadRect _ _ _ _

theorem v113_A : kernelRun0_A.sl.v113 (F := Ideal) c arg15 = start.m := by
  unfold kernelRun0_A.sl.v113 kernelRun0_A.sl.HS2_1
  exact View.readCov_cons_toLoadRect _ _ _ _

theorem h1_A : kernelRun0_A.sl.v161 c arg1 harg1 arg2 harg2 arg3 harg3 arg4 harg4 arg5 harg5 arg6 harg6 arg7 harg7 arg8 harg8 arg9 harg9 arg13 arg14 x0 x1 x2 x3 x4 x5 x6 x7 x8
    = (chain ⟨x1, x2, x3, x4, x5, x6, x7, x8⟩ x0 start 1).h := by
  unfold kernelRun0_A.sl.v161 kernelRun0_A.sl.HS0_2
  refine (View.readCov_cons_toLoadRect _ _ _ _).trans ?_
  simp only [kernelRun0_A.sl.r_6, kernelRun0_A.sl.r_7, kernelRun0_A.sl.r, kernelRun0_A.sl.r_1, kernelRun0_A.sl.r_2, kernelRun0_A.sl.r_3, kernelRun0_A.sl.r_4, kernelRun0_A.sl.r_5, v101_A, v84_A, View.readAt_eq_ld, harg1.read_unread, harg2.read_unread, harg3.read_unread, harg4.read_unread, harg5.read_unread, harg6.read_unread, harg7.read_unread, harg8.read_unread, harg9.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, ld_slab]
  exact step0_h ⟨x1, x2, x3, x4, x5, x6, x7, x8⟩ (slab x0 0) (chain ⟨x1, x2, x3, x4, x5, x6, x7, x8⟩ x0 start 0).h (chain ⟨x1, x2, x3, x4, x5, x6, x7, x8⟩ x0 start 0).c

theorem c1_A : kernelRun0_A.sl.v178 c arg1 harg1 arg2 harg2 arg3 harg3 arg4 harg4 arg5 harg5 arg6 harg6 arg7 harg7 arg8 harg8 arg9 harg9 arg13 arg14 x0 x1 x2 x3 x4 x5 x6 x7 x8
    = (chain ⟨x1, x2, x3, x4, x5, x6, x7, x8⟩ x0 start 1).c := by
  unfold kernelRun0_A.sl.v178 kernelRun0_A.sl.HS1_2
  refine (View.readCov_cons_toLoadRect _ _ _ _).trans ?_
  simp only [kernelRun0_A.sl.r_6, kernelRun0_A.sl.r_7, kernelRun0_A.sl.r, kernelRun0_A.sl.r_1, kernelRun0_A.sl.r_2, kernelRun0_A.sl.r_3, kernelRun0_A.sl.r_4, kernelRun0_A.sl.r_5, v101_A, v84_A, View.readAt_eq_ld, harg1.read_unread, harg2.read_unread, harg3.read_unread, harg4.read_unread, harg5.read_unread, harg6.read_unread, harg7.read_unread, harg8.read_unread, harg9.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, ld_slab]
  exact step0_c ⟨x1, x2, x3, x4, x5, x6, x7, x8⟩ (slab x0 0) (chain ⟨x1, x2, x3, x4, x5, x6, x7, x8⟩ x0 start 0).h (chain ⟨x1, x2, x3, x4, x5, x6, x7, x8⟩ x0 start 0).c

theorem m1_A : kernelRun0_A.sl.v190 c arg1 harg1 arg2 harg2 arg3 harg3 arg4 harg4 arg5 harg5 arg6 harg6 arg7 harg7 arg8 harg8 arg9 harg9 arg13 arg14 arg15 x0 x1 x2 x3 x4 x5 x6 x7 x8
    = (chain ⟨x1, x2, x3, x4, x5, x6, x7, x8⟩ x0 start 1).m := by
  unfold kernelRun0_A.sl.v190 kernelRun0_A.sl.HS2_2
  refine (View.readCov_cons_toLoadRect _ _ _ _).trans ?_
  simp only [kernelRun0_A.sl.r_6, kernelRun0_A.sl.r_7, kernelRun0_A.sl.r, kernelRun0_A.sl.r_1, kernelRun0_A.sl.r_2, kernelRun0_A.sl.r_3, kernelRun0_A.sl.r_4, kernelRun0_A.sl.r_5, v101_A, v113_A, v84_A, View.readAt_eq_ld, harg1.read_unread, harg2.read_unread, harg3.read_unread, harg4.read_unread, harg5.read_unread, harg6.read_unread, harg7.read_unread, harg8.read_unread, harg9.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, ld_slab]
  exact step0_m ⟨x1, x2, x3, x4, x5, x6, x7, x8⟩ (slab x0 0) (chain ⟨x1, x2, x3, x4, x5, x6, x7, x8⟩ x0 start 0).h (chain ⟨x1, x2, x3, x4, x5, x6, x7, x8⟩ x0 start 0).c (chain ⟨x1, x2, x3, x4, x5, x6, x7, x8⟩ x0 start 0).m

theorem h2_A : kernelRun0_A.sl.v238 c arg1 harg1 arg2 harg2 arg3 harg3 arg4 harg4 arg5 harg5 arg6 harg6 arg7 harg7 arg8 harg8 arg9 harg9 arg13 arg14 x0 x1 x2 x3 x4 x5 x6 x7 x8
    = (chain ⟨x1, x2, x3, x4, x5, x6, x7, x8⟩ x0 start 2).h := by
  unfold kernelRun0_A.sl.v238 kernelRun0_A.sl.HS0_3
  refine (View.readCov_cons_toLoadRect _ _ _ _).trans ?_
  simp only [kernelRun0_A.sl.r_10, kernelRun0_A.sl.r_11, kernelRun0_A.sl.r_1, kernelRun0_A.sl.r_2, kernelRun0_A.sl.r_3, kernelRun0_A.sl.r_4, kernelRun0_A.sl.r_5, kernelRun0_A.sl.r_8, kernelRun0_A.sl.r_9, kernelRun0_A.sl.r, c1_A, h1_A, View.readAt_eq_ld, harg1.read_unread, harg2.read_unread, harg3.read_unread, harg4.read_unread, harg5.read_unread, harg6.read_unread, harg7.read_unread, harg8.read_unread, harg9.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, ld_slab]
  exact step1_h ⟨x1, x2, x3, x4, x5, x6, x7, x8⟩ (slab x0 1) (chain ⟨x1, x2, x3, x4, x5, x6, x7, x8⟩ x0 start 1).h (chain ⟨x1, x2, x3, x4, x5, x6, x7, x8⟩ x0 start 1).c

theorem c2_A : kernelRun0_A.sl.v255 c arg1 harg1 arg2 harg2 arg3 harg3 arg4 harg4 arg5 harg5 arg6 harg6 arg7 harg7 arg8 harg8 arg9 harg9 arg13 arg14 x0 x1 x2 x3 x4 x5 x6 x7 x8
    = (chain ⟨x1, x2, x3, x4, x5, x6, x7, x8⟩ x0 start 2).c := by
  unfold kernelRun0_A.sl.v255 kernelRun0_A.sl.HS1_3
  refine (View.readCov_cons_toLoadRect _ _ _ _).trans ?_
  simp only [kernelRun0_A.sl.r_10, kernelRun0_A.sl.r_11, kernelRun0_A.sl.r_1, kernelRun0_A.sl.r_2, kernelRun0_A.sl.r_3, kernelRun0_A.sl.r_4, kernelRun0_A.sl.r_5, kernelRun0_A.sl.r_8, kernelRun0_A.sl.r_9, kernelRun0_A.sl.r, c1_A, h1_A, View.readAt_eq_ld, harg1.read_unread, harg2.read_unread, harg3.read_unread, harg4.read_unread, harg5.read_unread, harg6.read_unread, harg7.read_unread, harg8.read_unread, harg9.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, ld_slab]
  exact step1_c ⟨x1, x2, x3, x4, x5, x6, x7, x8⟩ (slab x0 1) (chain ⟨x1, x2, x3, x4, x5, x6, x7, x8⟩ x0 start 1).h (chain ⟨x1, x2, x3, x4, x5, x6, x7, x8⟩ x0 start 1).c

theorem m2_A : kernelRun0_A.sl.v267 c arg1 harg1 arg2 harg2 arg3 harg3 arg4 harg4 arg5 harg5 arg6 harg6 arg7 harg7 arg8 harg8 arg9 harg9 arg13 arg14 arg15 x0 x1 x2 x3 x4 x5 x6 x7 x8
    = (chain ⟨x1, x2, x3, x4, x5, x6, x7, x8⟩ x0 start 2).m := by
  unfold kernelRun0_A.sl.v267 kernelRun0_A.sl.HS2_3
  refine (View.readCov_cons_toLoadRect _ _ _ _).trans ?_
  simp only [kernelRun0_A.sl.r_10, kernelRun0_A.sl.r_11, kernelRun0_A.sl.r_1, kernelRun0_A.sl.r_2, kernelRun0_A.sl.r_3, kernelRun0_A.sl.r_4, kernelRun0_A.sl.r_5, kernelRun0_A.sl.r_8, kernelRun0_A.sl.r_9, kernelRun0_A.sl.r, c1_A, m1_A, h1_A, View.readAt_eq_ld, harg1.read_unread, harg2.read_unread, harg3.read_unread, harg4.read_unread, harg5.read_unread, harg6.read_unread, harg7.read_unread, harg8.read_unread, harg9.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, ld_slab]
  exact step1_m ⟨x1, x2, x3, x4, x5, x6, x7, x8⟩ (slab x0 1) (chain ⟨x1, x2, x3, x4, x5, x6, x7, x8⟩ x0 start 1).h (chain ⟨x1, x2, x3, x4, x5, x6, x7, x8⟩ x0 start 1).c (chain ⟨x1, x2, x3, x4, x5, x6, x7, x8⟩ x0 start 1).m

theorem h3_A : kernelRun0_A.sl.v315 c arg1 harg1 arg2 harg2 arg3 harg3 arg4 harg4 arg5 harg5 arg6 harg6 arg7 harg7 arg8 harg8 arg9 harg9 arg13 arg14 x0 x1 x2 x3 x4 x5 x6 x7 x8
    = (chain ⟨x1, x2, x3, x4, x5, x6, x7, x8⟩ x0 start 3).h := by
  unfold kernelRun0_A.sl.v315 kernelRun0_A.sl.HS0_4
  refine (View.readCov_cons_toLoadRect _ _ _ _).trans ?_
  simp only [kernelRun0_A.sl.r_15, kernelRun0_A.sl.r_16, kernelRun0_A.sl.r_17, kernelRun0_A.sl.r_18, kernelRun0_A.sl.r_1, kernelRun0_A.sl.r_3, kernelRun0_A.sl.r_4, kernelRun0_A.sl.r_5, kernelRun0_A.sl.r_12, kernelRun0_A.sl.r_13, kernelRun0_A.sl.r_14, kernelRun0_A.sl.r_2, kernelRun0_A.sl.r, c2_A, h2_A, View.readAt_eq_ld, harg1.read_unread, harg2.read_unread, harg3.read_unread, harg4.read_unread, harg5.read_unread, harg6.read_unread, harg7.read_unread, harg8.read_unread, harg9.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, ld_slab]
  exact step2_h ⟨x1, x2, x3, x4, x5, x6, x7, x8⟩ (slab x0 2) (chain ⟨x1, x2, x3, x4, x5, x6, x7, x8⟩ x0 start 2).h (chain ⟨x1, x2, x3, x4, x5, x6, x7, x8⟩ x0 start 2).c

theorem c3_A : kernelRun0_A.sl.v332 c arg1 harg1 arg2 harg2 arg3 harg3 arg4 harg4 arg5 harg5 arg6 harg6 arg7 harg7 arg8 harg8 arg9 harg9 arg13 arg14 x0 x1 x2 x3 x4 x5 x6 x7 x8
    = (chain ⟨x1, x2, x3, x4, x5, x6, x7, x8⟩ x0 start 3).c := by
  unfold kernelRun0_A.sl.v332 kernelRun0_A.sl.HS1_4
  refine (View.readCov_cons_toLoadRect _ _ _ _).trans ?_
  simp only [kernelRun0_A.sl.r_15, kernelRun0_A.sl.r_16, kernelRun0_A.sl.r_17, kernelRun0_A.sl.r_1, kernelRun0_A.sl.r_3, kernelRun0_A.sl.r_4, kernelRun0_A.sl.r_5, kernelRun0_A.sl.r_12, kernelRun0_A.sl.r_13, kernelRun0_A.sl.r_14, kernelRun0_A.sl.r_2, kernelRun0_A.sl.r, c2_A, h2_A, View.readAt_eq_ld, harg1.read_unread, harg2.read_unread, harg3.read_unread, harg4.read_unread, harg5.read_unread, harg6.read_unread, harg7.read_unread, harg8.read_unread, harg9.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, ld_slab]
  exact step2_c ⟨x1, x2, x3, x4, x5, x6, x7, x8⟩ (slab x0 2) (chain ⟨x1, x2, x3, x4, x5, x6, x7, x8⟩ x0 start 2).h (chain ⟨x1, x2, x3, x4, x5, x6, x7, x8⟩ x0 start 2).c

theorem m3_A : kernelRun0_A.sl.v344 c arg1 harg1 arg2 harg2 arg3 harg3 arg4 harg4 arg5 harg5 arg6 harg6 arg7 harg7 arg8 harg8 arg9 harg9 arg13 arg14 arg15 x0 x1 x2 x3 x4 x5 x6 x7 x8
    = (chain ⟨x1, x2, x3, x4, x5, x6, x7, x8⟩ x0 start 3).m := by
  unfold kernelRun0_A.sl.v344 kernelRun0_A.sl.HS2_4
  refine (View.readCov_cons_toLoadRect _ _ _ _).trans ?_
  simp only [kernelRun0_A.sl.r_15, kernelRun0_A.sl.r_16, kernelRun0_A.sl.r_17, kernelRun0_A.sl.r_18, kernelRun0_A.sl.r_1, kernelRun0_A.sl.r_3, kernelRun0_A.sl.r_4, kernelRun0_A.sl.r_5, kernelRun0_A.sl.r_12, kernelRun0_A.sl.r_13, kernelRun0_A.sl.r_14, kernelRun0_A.sl.r_2, kernelRun0_A.sl.r, c2_A, m2_A, h2_A, View.readAt_eq_ld, harg1.read_unread, harg2.read_unread, harg3.read_unread, harg4.read_unread, harg5.read_unread, harg6.read_unread, harg7.read_unread, harg8.read_unread, harg9.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, ld_slab]
  exact step2_m ⟨x1, x2, x3, x4, x5, x6, x7, x8⟩ (slab x0 2) (chain ⟨x1, x2, x3, x4, x5, x6, x7, x8⟩ x0 start 2).h (chain ⟨x1, x2, x3, x4, x5, x6, x7, x8⟩ x0 start 2).c (chain ⟨x1, x2, x3, x4, x5, x6, x7, x8⟩ x0 start 2).m

theorem h4_A : kernelRun0_A.sl.v392 c arg1 harg1 arg2 harg2 arg3 harg3 arg4 harg4 arg5 harg5 arg6 harg6 arg7 harg7 arg8 harg8 arg9 harg9 arg13 arg14 x0 x1 x2 x3 x4 x5 x6 x7 x8
    = (chain ⟨x1, x2, x3, x4, x5, x6, x7, x8⟩ x0 start 4).h := by
  unfold kernelRun0_A.sl.v392 kernelRun0_A.sl.HS0_5
  refine (View.readCov_cons_toLoadRect _ _ _ _).trans ?_
  simp only [kernelRun0_A.sl.r_21, kernelRun0_A.sl.r_1, kernelRun0_A.sl.r_3, kernelRun0_A.sl.r_5, kernelRun0_A.sl.r_19, kernelRun0_A.sl.r, kernelRun0_A.sl.r_2, kernelRun0_A.sl.r_4, h3_A, c3_A, View.readAt_eq_ld, harg1.read_unread, harg2.read_unread, harg3.read_unread, harg4.read_unread, harg5.read_unread, harg6.read_unread, harg7.read_unread, harg8.read_unread, harg9.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, ld_slab]
  exact step3_h ⟨x1, x2, x3, x4, x5, x6, x7, x8⟩ (slab x0 3) (chain ⟨x1, x2, x3, x4, x5, x6, x7, x8⟩ x0 start 3).h (chain ⟨x1, x2, x3, x4, x5, x6, x7, x8⟩ x0 start 3).c

theorem c4_A : kernelRun0_A.sl.v409 c arg1 harg1 arg2 harg2 arg3 harg3 arg4 harg4 arg5 harg5 arg6 harg6 arg7 harg7 arg8 harg8 arg9 harg9 arg13 arg14 x0 x1 x2 x3 x4 x5 x6 x7 x8
    = (chain ⟨x1, x2, x3, x4, x5, x6, x7, x8⟩ x0 start 4).c := by
  unfold kernelRun0_A.sl.v409 kernelRun0_A.sl.HS1_5
  refine (View.readCov_cons_toLoadRect _ _ _ _).trans ?_
  simp only [kernelRun0_A.sl.r_20, kernelRun0_A.sl.r_1, kernelRun0_A.sl.r_3, kernelRun0_A.sl.r_5, kernelRun0_A.sl.r_19, kernelRun0_A.sl.r, kernelRun0_A.sl.r_2, kernelRun0_A.sl.r_4, h3_A, c3_A, View.readAt_eq_ld, harg1.read_unread, harg2.read_unread, harg3.read_unread, harg4.read_unread, harg5.read_unread, harg6.read_unread, harg7.read_unread, harg8.read_unread, harg9.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, ld_slab]
  exact step3_c ⟨x1, x2, x3, x4, x5, x6, x7, x8⟩ (slab x0 3) (chain ⟨x1, x2, x3, x4, x5, x6, x7, x8⟩ x0 start 3).h (chain ⟨x1, x2, x3, x4, x5, x6, x7, x8⟩ x0 start 3).c

theorem m4_A : kernelRun0_A.sl.v421 c arg1 harg1 arg2 harg2 arg3 harg3 arg4 harg4 arg5 harg5 arg6 harg6 arg7 harg7 arg8 harg8 arg9 harg9 arg13 arg14 arg15 x0 x1 x2 x3 x4 x5 x6 x7 x8
    = (chain ⟨x1, x2, x3, x4, x5, x6, x7, x8⟩ x0 start 4).m := by
  unfold kernelRun0_A.sl.v421 kernelRun0_A.sl.HS2_5
  refine (View.readCov_cons_toLoadRect _ _ _ _).trans ?_
  simp only [kernelRun0_A.sl.r_21, kernelRun0_A.sl.r_1, kernelRun0_A.sl.r_3, kernelRun0_A.sl.r_5, kernelRun0_A.sl.r_19, kernelRun0_A.sl.r, kernelRun0_A.sl.r_2, kernelRun0_A.sl.r_4, m3_A, h3_A, c3_A, View.readAt_eq_ld, harg1.read_unread, harg2.read_unread, harg3.read_unread, harg4.read_unread, harg5.read_unread, harg6.read_unread, harg7.read_unread, harg8.read_unread, harg9.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, ld_slab]
  exact step3_m ⟨x1, x2, x3, x4, x5, x6, x7, x8⟩ (slab x0 3) (chain ⟨x1, x2, x3, x4, x5, x6, x7, x8⟩ x0 start 3).h (chain ⟨x1, x2, x3, x4, x5, x6, x7, x8⟩ x0 start 3).c (chain ⟨x1, x2, x3, x4, x5, x6, x7, x8⟩ x0 start 3).m

theorem h5_A : kernelRun0_A.sl.v469 c arg1 harg1 arg2 harg2 arg3 harg3 arg4 harg4 arg5 harg5 arg6 harg6 arg7 harg7 arg8 harg8 arg9 harg9 arg13 arg14 x0 x1 x2 x3 x4 x5 x6 x7 x8
    = (chain ⟨x1, x2, x3, x4, x5, x6, x7, x8⟩ x0 start 5).h := by
  unfold kernelRun0_A.sl.v469 kernelRun0_A.sl.HS0_6
  refine (View.readCov_cons_toLoadRect _ _ _ _).trans ?_
  simp only [kernelRun0_A.sl.r_22, kernelRun0_A.sl.r, kernelRun0_A.sl.r_1, kernelRun0_A.sl.r_2, kernelRun0_A.sl.r_3, kernelRun0_A.sl.r_4, kernelRun0_A.sl.r_5, h4_A, c4_A, View.readAt_eq_ld, harg1.read_unread, harg2.read_unread, harg3.read_unread, harg4.read_unread, harg5.read_unread, harg6.read_unread, harg7.read_unread, harg8.read_unread, harg9.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, ld_slab]
  exact step4_h ⟨x1, x2, x3, x4, x5, x6, x7, x8⟩ (slab x0 4) (chain ⟨x1, x2, x3, x4, x5, x6, x7, x8⟩ x0 start 4).h (chain ⟨x1, x2, x3, x4, x5, x6, x7, x8⟩ x0 start 4).c

theorem c5_A : kernelRun0_A.sl.v486 c arg1 harg1 arg2 harg2 arg3 harg3 arg4 harg4 arg5 harg5 arg6 harg6 arg7 harg7 arg8 harg8 arg9 harg9 arg13 arg14 x0 x1 x2 x3 x4 x5 x6 x7 x8
    = (chain ⟨x1, x2, x3, x4, x5, x6, x7, x8⟩ x0 start 5).c := by
  unfold kernelRun0_A.sl.v486 kernelRun0_A.sl.HS1_6
  refine (View.readCov_cons_toLoadRect _ _ _ _).trans ?_
  simp only [kernelRun0_A.sl.r_22, kernelRun0_A.sl.r, kernelRun0_A.sl.r_1, kernelRun0_A.sl.r_2, kernelRun0_A.sl.r_3, kernelRun0_A.sl.r_4, kernelRun0_A.sl.r_5, h4_A, c4_A, View.readAt_eq_ld, harg1.read_unread, harg2.read_unread, harg3.read_unread, harg4.read_unread, harg5.read_unread, harg6.read_unread, harg7.read_unread, harg8.read_unread, harg9.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, ld_slab]
  exact step4_c ⟨x1, x2, x3, x4, x5, x6, x7, x8⟩ (slab x0 4) (chain ⟨x1, x2, x3, x4, x5, x6, x7, x8⟩ x0 start 4).h (chain ⟨x1, x2, x3, x4, x5, x6, x7, x8⟩ x0 start 4).c

theorem m5_A : kernelRun0_A.sl.v498 c arg1 harg1 arg2 harg2 arg3 harg3 arg4 harg4 arg5 harg5 arg6 harg6 arg7 harg7 arg8 harg8 arg9 harg9 arg13 arg14 arg15 x0 x1 x2 x3 x4 x5 x6 x7 x8
    = (chain ⟨x1, x2, x3, x4, x5, x6, x7, x8⟩ x0 start 5).m := by
  unfold kernelRun0_A.sl.v498 kernelRun0_A.sl.HS2_6
  refine (View.readCov_cons_toLoadRect _ _ _ _).trans ?_
  simp only [kernelRun0_A.sl.r_23, kernelRun0_A.sl.r_22, kernelRun0_A.sl.r, kernelRun0_A.sl.r_1, kernelRun0_A.sl.r_2, kernelRun0_A.sl.r_3, kernelRun0_A.sl.r_4, kernelRun0_A.sl.r_5, m4_A, h4_A, c4_A, View.readAt_eq_ld, harg1.read_unread, harg2.read_unread, harg3.read_unread, harg4.read_unread, harg5.read_unread, harg6.read_unread, harg7.read_unread, harg8.read_unread, harg9.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, ld_slab]
  exact step4_m ⟨x1, x2, x3, x4, x5, x6, x7, x8⟩ (slab x0 4) (chain ⟨x1, x2, x3, x4, x5, x6, x7, x8⟩ x0 start 4).h (chain ⟨x1, x2, x3, x4, x5, x6, x7, x8⟩ x0 start 4).c (chain ⟨x1, x2, x3, x4, x5, x6, x7, x8⟩ x0 start 4).m

theorem h6_A : kernelRun0_A.sl.v546 c arg1 harg1 arg2 harg2 arg3 harg3 arg4 harg4 arg5 harg5 arg6 harg6 arg7 harg7 arg8 harg8 arg9 harg9 arg13 arg14 x0 x1 x2 x3 x4 x5 x6 x7 x8
    = (chain ⟨x1, x2, x3, x4, x5, x6, x7, x8⟩ x0 start 6).h := by
  unfold kernelRun0_A.sl.v546 kernelRun0_A.sl.HS0_7
  refine (View.readCov_cons_toLoadRect _ _ _ _).trans ?_
  simp only [kernelRun0_A.sl.r_24, kernelRun0_A.sl.r, kernelRun0_A.sl.r_1, kernelRun0_A.sl.r_2, kernelRun0_A.sl.r_3, kernelRun0_A.sl.r_4, kernelRun0_A.sl.r_5, h5_A, c5_A, View.readAt_eq_ld, harg1.read_unread, harg2.read_unread, harg3.read_unread, harg4.read_unread, harg5.read_unread, harg6.read_unread, harg7.read_unread, harg8.read_unread, harg9.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, ld_slab]
  exact step5_h ⟨x1, x2, x3, x4, x5, x6, x7, x8⟩ (slab x0 5) (chain ⟨x1, x2, x3, x4, x5, x6, x7, x8⟩ x0 start 5).h (chain ⟨x1, x2, x3, x4, x5, x6, x7, x8⟩ x0 start 5).c

theorem c6_A : kernelRun0_A.sl.v563 c arg1 harg1 arg2 harg2 arg3 harg3 arg4 harg4 arg5 harg5 arg6 harg6 arg7 harg7 arg8 harg8 arg9 harg9 arg13 arg14 x0 x1 x2 x3 x4 x5 x6 x7 x8
    = (chain ⟨x1, x2, x3, x4, x5, x6, x7, x8⟩ x0 start 6).c := by
  unfold kernelRun0_A.sl.v563 kernelRun0_A.sl.HS1_7
  refine (View.readCov_cons_toLoadRect _ _ _ _).trans ?_
  simp only [kernelRun0_A.sl.r_24, kernelRun0_A.sl.r, kernelRun0_A.sl.r_1, kernelRun0_A.sl.r_2, kernelRun0_A.sl.r_3, kernelRun0_A.sl.r_4, kernelRun0_A.sl.r_5, h5_A, c5_A, View.readAt_eq_ld, harg1.read_unread, harg2.read_unread, harg3.read_unread, harg4.read_unread, harg5.read_unread, harg6.read_unread, harg7.read_unread, harg8.read_unread, harg9.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, ld_slab]
  exact step5_c ⟨x1, x2, x3, x4, x5, x6, x7, x8⟩ (slab x0 5) (chain ⟨x1, x2, x3, x4, x5, x6, x7, x8⟩ x0 start 5).h (chain ⟨x1, x2, x3, x4, x5, x6, x7, x8⟩ x0 start 5).c

theorem m6_A : kernelRun0_A.sl.v575 c arg1 harg1 arg2 harg2 arg3 harg3 arg4 harg4 arg5 harg5 arg6 harg6 arg7 harg7 arg8 harg8 arg9 harg9 arg13 arg14 arg15 x0 x1 x2 x3 x4 x5 x6 x7 x8
    = (chain ⟨x1, x2, x3, x4, x5, x6, x7, x8⟩ x0 start 6).m := by
  unfold kernelRun0_A.sl.v575 kernelRun0_A.sl.HS2_7
  refine (View.readCov_cons_toLoadRect _ _ _ _).trans ?_
  simp only [kernelRun0_A.sl.r_24, kernelRun0_A.sl.r, kernelRun0_A.sl.r_1, kernelRun0_A.sl.r_2, kernelRun0_A.sl.r_3, kernelRun0_A.sl.r_4, kernelRun0_A.sl.r_5, h5_A, c5_A, m5_A, View.readAt_eq_ld, harg1.read_unread, harg2.read_unread, harg3.read_unread, harg4.read_unread, harg5.read_unread, harg6.read_unread, harg7.read_unread, harg8.read_unread, harg9.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, ld_slab]
  exact step5_m ⟨x1, x2, x3, x4, x5, x6, x7, x8⟩ (slab x0 5) (chain ⟨x1, x2, x3, x4, x5, x6, x7, x8⟩ x0 start 5).h (chain ⟨x1, x2, x3, x4, x5, x6, x7, x8⟩ x0 start 5).c (chain ⟨x1, x2, x3, x4, x5, x6, x7, x8⟩ x0 start 5).m

theorem h7_A : kernelRun0_A.sl.v623 c arg1 harg1 arg2 harg2 arg3 harg3 arg4 harg4 arg5 harg5 arg6 harg6 arg7 harg7 arg8 harg8 arg9 harg9 arg13 arg14 x0 x1 x2 x3 x4 x5 x6 x7 x8
    = (chain ⟨x1, x2, x3, x4, x5, x6, x7, x8⟩ x0 start 7).h := by
  unfold kernelRun0_A.sl.v623 kernelRun0_A.sl.HS0_8
  refine (View.readCov_cons_toLoadRect _ _ _ _).trans ?_
  simp only [kernelRun0_A.sl.r_25, kernelRun0_A.sl.r_26, kernelRun0_A.sl.r, kernelRun0_A.sl.r_1, kernelRun0_A.sl.r_2, kernelRun0_A.sl.r_3, kernelRun0_A.sl.r_4, kernelRun0_A.sl.r_5, c6_A, h6_A, View.readAt_eq_ld, harg1.read_unread, harg2.read_unread, harg3.read_unread, harg4.read_unread, harg5.read_unread, harg6.read_unread, harg7.read_unread, harg8.read_unread, harg9.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, ld_slab]
  exact step6_h ⟨x1, x2, x3, x4, x5, x6, x7, x8⟩ (slab x0 6) (chain ⟨x1, x2, x3, x4, x5, x6, x7, x8⟩ x0 start 6).h (chain ⟨x1, x2, x3, x4, x5, x6, x7, x8⟩ x0 start 6).c

theorem c7_A : kernelRun0_A.sl.v640 c arg1 harg1 arg2 harg2 arg3 harg3 arg4 harg4 arg5 harg5 arg6 harg6 arg7 harg7 arg8 harg8 arg9 harg9 arg13 arg14 x0 x1 x2 x3 x4 x5 x6 x7 x8
    = (chain ⟨x1, x2, x3, x4, x5, x6, x7, x8⟩ x0 start 7).c := by
  unfold kernelRun0_A.sl.v640 kernelRun0_A.sl.HS1_8
  refine (View.readCov_cons_toLoadRect _ _ _ _).trans ?_
  simp only [kernelRun0_A.sl.r_25, kernelRun0_A.sl.r_26, kernelRun0_A.sl.r, kernelRun0_A.sl.r_1, kernelRun0_A.sl.r_2, kernelRun0_A.sl.r_3, kernelRun0_A.sl.r_4, kernelRun0_A.sl.r_5, c6_A, h6_A, View.readAt_eq_ld, harg1.read_unread, harg2.read_unread, harg3.read_unread, harg4.read_unread, harg5.read_unread, harg6.read_unread, harg7.read_unread, harg8.read_unread, harg9.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, ld_slab]
  exact step6_c ⟨x1, x2, x3, x4, x5, x6, x7, x8⟩ (slab x0 6) (chain ⟨x1, x2, x3, x4, x5, x6, x7, x8⟩ x0 start 6).h (chain ⟨x1, x2, x3, x4, x5, x6, x7, x8⟩ x0 start 6).c

theorem m7_A : kernelRun0_A.sl.v652 c arg1 harg1 arg2 harg2 arg3 harg3 arg4 harg4 arg5 harg5 arg6 harg6 arg7 harg7 arg8 harg8 arg9 harg9 arg13 arg14 arg15 x0 x1 x2 x3 x4 x5 x6 x7 x8
    = (chain ⟨x1, x2, x3, x4, x5, x6, x7, x8⟩ x0 start 7).m := by
  unfold kernelRun0_A.sl.v652 kernelRun0_A.sl.HS2_8
  refine (View.readCov_cons_toLoadRect _ _ _ _).trans ?_
  simp only [kernelRun0_A.sl.r_25, kernelRun0_A.sl.r_26, kernelRun0_A.sl.r, kernelRun0_A.sl.r_1, kernelRun0_A.sl.r_2, kernelRun0_A.sl.r_3, kernelRun0_A.sl.r_4, kernelRun0_A.sl.r_5, c6_A, m6_A, h6_A, View.readAt_eq_ld, harg1.read_unread, harg2.read_unread, harg3.read_unread, harg4.read_unread, harg5.read_unread, harg6.read_unread, harg7.read_unread, harg8.read_unread, harg9.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, ld_slab]
  exact step6_m ⟨x1, x2, x3, x4, x5, x6, x7, x8⟩ (slab x0 6) (chain ⟨x1, x2, x3, x4, x5, x6, x7, x8⟩ x0 start 6).h (chain ⟨x1, x2, x3, x4, x5, x6, x7, x8⟩ x0 start 6).c (chain ⟨x1, x2, x3, x4, x5, x6, x7, x8⟩ x0 start 6).m

theorem h8_A : kernelRun0_A.sl.v700 c arg1 harg1 arg2 harg2 arg3 harg3 arg4 harg4 arg5 harg5 arg6 harg6 arg7 harg7 arg8 harg8 arg9 harg9 arg13 arg14 x0 x1 x2 x3 x4 x5 x6 x7 x8
    = (chain ⟨x1, x2, x3, x4, x5, x6, x7, x8⟩ x0 start 8).h := by
  unfold kernelRun0_A.sl.v700 kernelRun0_A.sl.HS0_9
  refine (View.readCov_cons_toLoadRect _ _ _ _).trans ?_
  simp only [kernelRun0_A.sl.r_29, kernelRun0_A.sl.r_30, kernelRun0_A.sl.r_1, kernelRun0_A.sl.r_2, kernelRun0_A.sl.r_3, kernelRun0_A.sl.r_4, kernelRun0_A.sl.r_5, kernelRun0_A.sl.r_27, kernelRun0_A.sl.r_28, kernelRun0_A.sl.r, c7_A, h7_A, View.readAt_eq_ld, harg1.read_unread, harg2.read_unread, harg3.read_unread, harg4.read_unread, harg5.read_unread, harg6.read_unread, harg7.read_unread, harg8.read_unread, harg9.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, ld_slab]
  exact step7_h ⟨x1, x2, x3, x4, x5, x6, x7, x8⟩ (slab x0 7) (chain ⟨x1, x2, x3, x4, x5, x6, x7, x8⟩ x0 start 7).h (chain ⟨x1, x2, x3, x4, x5, x6, x7, x8⟩ x0 start 7).c

theorem c8_A : kernelRun0_A.sl.v717 c arg1 harg1 arg2 harg2 arg3 harg3 arg4 harg4 arg5 harg5 arg6 harg6 arg7 harg7 arg8 harg8 arg9 harg9 arg13 arg14 x0 x1 x2 x3 x4 x5 x6 x7 x8
    = (chain ⟨x1, x2, x3, x4, x5, x6, x7, x8⟩ x0 start 8).c := by
  unfold kernelRun0_A.sl.v717 kernelRun0_A.sl.HS1_9
  refine (View.readCov_cons_toLoadRect _ _ _ _).trans ?_
  simp only [kernelRun0_A.sl.r_29, kernelRun0_A.sl.r_30, kernelRun0_A.sl.r_1, kernelRun0_A.sl.r_2, kernelRun0_A.sl.r_3, kernelRun0_A.sl.r_4, kernelRun0_A.sl.r_5, kernelRun0_A.sl.r_27, kernelRun0_A.sl.r_28, kernelRun0_A.sl.r, c7_A, h7_A, View.readAt_eq_ld, harg1.read_unread, harg2.read_unread, harg3.read_unread, harg4.read_unread, harg5.read_unread, harg6.read_unread, harg7.read_unread, harg8.read_unread, harg9.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, ld_slab]
  exact step7_c ⟨x1, x2, x3, x4, x5, x6, x7, x8⟩ (slab x0 7) (chain ⟨x1, x2, x3, x4, x5, x6, x7, x8⟩ x0 start 7).h (chain ⟨x1, x2, x3, x4, x5, x6, x7, x8⟩ x0 start 7).c

theorem m8_A : kernelRun0_A.sl.v729 c arg1 harg1 arg2 harg2 arg3 harg3 arg4 harg4 arg5 harg5 arg6 harg6 arg7 harg7 arg8 harg8 arg9 harg9 arg13 arg14 arg15 x0 x1 x2 x3 x4 x5 x6 x7 x8
    = (chain ⟨x1, x2, x3, x4, x5, x6, x7, x8⟩ x0 start 8).m := by
  unfold kernelRun0_A.sl.v729 kernelRun0_A.sl.HS2_9
  refine (View.readCov_cons_toLoadRect _ _ _ _).trans ?_
  simp only [kernelRun0_A.sl.r_29, kernelRun0_A.sl.r_30, kernelRun0_A.sl.r_1, kernelRun0_A.sl.r_2, kernelRun0_A.sl.r_3, kernelRun0_A.sl.r_4, kernelRun0_A.sl.r_5, kernelRun0_A.sl.r_27, kernelRun0_A.sl.r_28, kernelRun0_A.sl.r, c7_A, m7_A, h7_A, View.readAt_eq_ld, harg1.read_unread, harg2.read_unread, harg3.read_unread, harg4.read_unread, harg5.read_unread, harg6.read_unread, harg7.read_unread, harg8.read_unread, harg9.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, ld_slab]
  exact step7_m ⟨x1, x2, x3, x4, x5, x6, x7, x8⟩ (slab x0 7) (chain ⟨x1, x2, x3, x4, x5, x6, x7, x8⟩ x0 start 7).h (chain ⟨x1, x2, x3, x4, x5, x6, x7, x8⟩ x0 start 7).c (chain ⟨x1, x2, x3, x4, x5, x6, x7, x8⟩ x0 start 7).m

theorem h9_A : kernelRun0_A.sl.v777 c arg1 harg1 arg2 harg2 arg3 harg3 arg4 harg4 arg5 harg5 arg6 harg6 arg7 harg7 arg8 harg8 arg9 harg9 arg13 arg14 x0 x1 x2 x3 x4 x5 x6 x7 x8
    = (chain ⟨x1, x2, x3, x4, x5, x6, x7, x8⟩ x0 start 9).h := by
  unfold kernelRun0_A.sl.v777 kernelRun0_A.sl.HS0_10
  refine (View.readCov_cons_toLoadRect _ _ _ _).trans ?_
  simp only [kernelRun0_A.sl.r_34, kernelRun0_A.sl.r_35, kernelRun0_A.sl.r_36, kernelRun0_A.sl.r_37, kernelRun0_A.sl.r_1, kernelRun0_A.sl.r_3, kernelRun0_A.sl.r_4, kernelRun0_A.sl.r_5, kernelRun0_A.sl.r_31, kernelRun0_A.sl.r_32, kernelRun0_A.sl.r_33, kernelRun0_A.sl.r_2, kernelRun0_A.sl.r, c8_A, h8_A, View.readAt_eq_ld, harg1.read_unread, harg2.read_unread, harg3.read_unread, harg4.read_unread, harg5.read_unread, harg6.read_unread, harg7.read_unread, harg8.read_unread, harg9.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, ld_slab]
  exact step8_h ⟨x1, x2, x3, x4, x5, x6, x7, x8⟩ (slab x0 8) (chain ⟨x1, x2, x3, x4, x5, x6, x7, x8⟩ x0 start 8).h (chain ⟨x1, x2, x3, x4, x5, x6, x7, x8⟩ x0 start 8).c

theorem c9_A : kernelRun0_A.sl.v794 c arg1 harg1 arg2 harg2 arg3 harg3 arg4 harg4 arg5 harg5 arg6 harg6 arg7 harg7 arg8 harg8 arg9 harg9 arg13 arg14 x0 x1 x2 x3 x4 x5 x6 x7 x8
    = (chain ⟨x1, x2, x3, x4, x5, x6, x7, x8⟩ x0 start 9).c := by
  unfold kernelRun0_A.sl.v794 kernelRun0_A.sl.HS1_10
  refine (View.readCov_cons_toLoadRect _ _ _ _).trans ?_
  simp only [kernelRun0_A.sl.r_34, kernelRun0_A.sl.r_35, kernelRun0_A.sl.r_36, kernelRun0_A.sl.r_1, kernelRun0_A.sl.r_3, kernelRun0_A.sl.r_4, kernelRun0_A.sl.r_5, kernelRun0_A.sl.r_31, kernelRun0_A.sl.r_32, kernelRun0_A.sl.r_33, kernelRun0_A.sl.r_2, kernelRun0_A.sl.r, c8_A, h8_A, View.readAt_eq_ld, harg1.read_unread, harg2.read_unread, harg3.read_unread, harg4.read_unread, harg5.read_unread, harg6.read_unread, harg7.read_unread, harg8.read_unread, harg9.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, ld_slab]
  exact step8_c ⟨x1, x2, x3, x4, x5, x6, x7, x8⟩ (slab x0 8) (chain ⟨x1, x2, x3, x4, x5, x6, x7, x8⟩ x0 start 8).h (chain ⟨x1, x2, x3, x4, x5, x6, x7, x8⟩ x0 start 8).c

theorem m9_A : kernelRun0_A.sl.v806 c arg1 harg1 arg2 harg2 arg3 harg3 arg4 harg4 arg5 harg5 arg6 harg6 arg7 harg7 arg8 harg8 arg9 harg9 arg13 arg14 arg15 x0 x1 x2 x3 x4 x5 x6 x7 x8
    = (chain ⟨x1, x2, x3, x4, x5, x6, x7, x8⟩ x0 start 9).m := by
  unfold kernelRun0_A.sl.v806 kernelRun0_A.sl.HS2_10
  refine (View.readCov_cons_toLoadRect _ _ _ _).trans ?_
  simp only [kernelRun0_A.sl.r_34, kernelRun0_A.sl.r_35, kernelRun0_A.sl.r_36, kernelRun0_A.sl.r_37, kernelRun0_A.sl.r_1, kernelRun0_A.sl.r_3, kernelRun0_A.sl.r_4, kernelRun0_A.sl.r_5, kernelRun0_A.sl.r_31, kernelRun0_A.sl.r_32, kernelRun0_A.sl.r_33, kernelRun0_A.sl.r_2, kernelRun0_A.sl.r, c8_A, m8_A, h8_A, View.readAt_eq_ld, harg1.read_unread, harg2.read_unread, harg3.read_unread, harg4.read_unread, harg5.read_unread, harg6.read_unread, harg7.read_unread, harg8.read_unread, harg9.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, ld_slab]
  exact step8_m ⟨x1, x2, x3, x4, x5, x6, x7, x8⟩ (slab x0 8) (chain ⟨x1, x2, x3, x4, x5, x6, x7, x8⟩ x0 start 8).h (chain ⟨x1, x2, x3, x4, x5, x6, x7, x8⟩ x0 start 8).c (chain ⟨x1, x2, x3, x4, x5, x6, x7, x8⟩ x0 start 8).m

theorem out_h_A : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10
    = (chain ⟨x1, x2, x3, x4, x5, x6, x7, x8⟩ x0 start 10).h := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun0_A
  dsimp only
  rw [View.canon_cons_unit_zero (S := S256x256) off_zero]
  simp only [kernelRun0_A.sl.r_40, kernelRun0_A.sl.r_1, kernelRun0_A.sl.r_3, kernelRun0_A.sl.r_5, kernelRun0_A.sl.r_38, kernelRun0_A.sl.r, kernelRun0_A.sl.r_2, kernelRun0_A.sl.r_4, h9_A, c9_A, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, ld_slab]
  exact step9_h ⟨x1, x2, x3, x4, x5, x6, x7, x8⟩ (slab x0 9) (chain ⟨x1, x2, x3, x4, x5, x6, x7, x8⟩ x0 start 9).h (chain ⟨x1, x2, x3, x4, x5, x6, x7, x8⟩ x0 start 9).c

theorem out_c_A : sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10
    = (chain ⟨x1, x2, x3, x4, x5, x6, x7, x8⟩ x0 start 10).c := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun0_A
  dsimp only
  rw [View.canon_cons_unit_zero (S := S256x256) off_zero]
  simp only [kernelRun0_A.sl.r_39, kernelRun0_A.sl.r_1, kernelRun0_A.sl.r_3, kernelRun0_A.sl.r_5, kernelRun0_A.sl.r_38, kernelRun0_A.sl.r, kernelRun0_A.sl.r_2, kernelRun0_A.sl.r_4, h9_A, c9_A, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, ld_slab]
  exact step9_c ⟨x1, x2, x3, x4, x5, x6, x7, x8⟩ (slab x0 9) (chain ⟨x1, x2, x3, x4, x5, x6, x7, x8⟩ x0 start 9).h (chain ⟨x1, x2, x3, x4, x5, x6, x7, x8⟩ x0 start 9).c

theorem out_m_A : sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10
    = (chain ⟨x1, x2, x3, x4, x5, x6, x7, x8⟩ x0 start 10).m := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun0_A
  dsimp only
  rw [View.canon_cons_unit_zero (S := S256x256) off_zero]
  simp only [kernelRun0_A.sl.r_40, kernelRun0_A.sl.r_1, kernelRun0_A.sl.r_3, kernelRun0_A.sl.r_5, kernelRun0_A.sl.r_38, kernelRun0_A.sl.r, kernelRun0_A.sl.r_2, kernelRun0_A.sl.r_4, m9_A, h9_A, c9_A, View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, ld_slab]
  exact step9_m ⟨x1, x2, x3, x4, x5, x6, x7, x8⟩ (slab x0 9) (chain ⟨x1, x2, x3, x4, x5, x6, x7, x8⟩ x0 start 9).h (chain ⟨x1, x2, x3, x4, x5, x6, x7, x8⟩ x0 start 9).c (chain ⟨x1, x2, x3, x4, x5, x6, x7, x8⟩ x0 start 9).m

end Net.Ker
-- ==== Proof.KRunB.lean ====
module

public import proofs.«01_k».proof.Proof.KChain

/-! # What the body's run leaves: a grid point in the middle

Every array that a step reads back is the one that the step before stored, so the run leaves the chain of ten steps. -/

@[expose] public section

set_option maxRecDepth 16384

noncomputable section

namespace Net.Ker

open Cert.KernelIdeal Cert.KernelIdeal.Gen
open Idealize.ShloMosaic Idealize.ShloMosaic.TcCoe

variable (c : Dev nD) (i : grid0.Coords) (arg1 : Memref sig .tc .vmem S10x17x512 .f32) (harg1 : arg1.IsWhole) (arg2 : Memref sig .tc .vmem S8x32 .f32) (harg2 : arg2.IsWhole) (arg3 : Memref sig .tc .vmem S2x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x32768 .f32) (harg6 : arg6.IsWhole) (arg7 : Memref sig .tc .vmem S128x1024 .bf16) (harg7 : arg7.IsWhole) (arg8 : Memref sig .tc .vmem S256x1024 .bf16) (harg8 : arg8.IsWhole) (arg9 : Memref sig .tc .vmem S1x1024 .f32) (harg9 : arg9.IsWhole) (arg10 : Memref sig .tc .vmem S256x1 .f32) (harg10 : arg10.IsWhole) (arg11 : Memref sig .tc .vmem S1x1 .f32) (harg11 : arg11.IsWhole) (arg12 : Memref sig .tc .vmem S256x1 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (hc0 : ¬cond0_0 i) (hc1 : ¬cond0_1 i)
    (x0 : Vec Ideal S10x17x512 .f32) (x1 : Vec Ideal S8x32 .f32) (x2 : Vec Ideal S2x128 .f32) (x3 : Vec Ideal S1x128 .f32) (x4 : Vec Ideal S128x128 .bf16) (x5 : Vec Ideal S1x32768 .f32) (x6 : Vec Ideal S128x1024 .bf16) (x7 : Vec Ideal S256x1024 .bf16) (x8 : Vec Ideal S1x1024 .f32) (x9 : Vec Ideal S256x1 .f32) (x10 : Vec Ideal S1x1 .f32) (xs0 : Vec Ideal S256x256 .f32) (xs1 : Vec Ideal S256x256 .f32) (xs2 : Vec Ideal S256x256 .f32)

theorem h1_B : kernelRun0_B.sl.v161 c arg1 harg1 arg2 harg2 arg3 harg3 arg4 harg4 arg5 harg5 arg6 harg6 arg7 harg7 arg8 harg8 arg9 harg9 arg13 harg13 arg14 harg14 x0 x1 x2 x3 x4 x5 x6 x7 x8 xs0 xs1
    = (chain ⟨x1, x2, x3, x4, x5, x6, x7, x8⟩ x0 ⟨xs0, xs1, xs2⟩ 1).h := by
  unfold kernelRun0_B.sl.v161 kernelRun0_B.sl.HS0_1
  refine (View.readCov_cons_toLoadRect _ _ _ _).trans ?_
  simp only [kernelRun0_B.sl.r_6, kernelRun0_B.sl.r_7, kernelRun0_B.sl.r, kernelRun0_B.sl.r_1, kernelRun0_B.sl.r_2, kernelRun0_B.sl.r_3, kernelRun0_B.sl.r_4, kernelRun0_B.sl.r_5, View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step0_h ⟨x1, x2, x3, x4, x5, x6, x7, x8⟩ (slab x0 0) (chain ⟨x1, x2, x3, x4, x5, x6, x7, x8⟩ x0 ⟨xs0, xs1, xs2⟩ 0).h (chain ⟨x1, x2, x3, x4, x5, x6, x7, x8⟩ x0 ⟨xs0, xs1, xs2⟩ 0).c

theorem c1_B : kernelRun0_B.sl.v178 c arg1 harg1 arg2 harg2 arg3 harg3 arg4 harg4 arg5 harg5 arg6 harg6 arg7 harg7 arg8 harg8 arg9 harg9 arg13 harg13 arg14 harg14 x0 x1 x2 x3 x4 x5 x6 x7 x8 xs0 xs1
    = (chain ⟨x1, x2, x3, x4, x5, x6, x7, x8⟩ x0 ⟨xs0, xs1, xs2⟩ 1).c := by
  unfold kernelRun0_B.sl.v178 kernelRun0_B.sl.HS1_1
  refine (View.readCov_cons_toLoadRect _ _ _ _).trans ?_
  simp only [kernelRun0_B.sl.r_6, kernelRun0_B.sl.r_7, kernelRun0_B.sl.r, kernelRun0_B.sl.r_1, kernelRun0_B.sl.r_2, kernelRun0_B.sl.r_3, kernelRun0_B.sl.r_4, kernelRun0_B.sl.r_5, View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step0_c ⟨x1, x2, x3, x4, x5, x6, x7, x8⟩ (slab x0 0) (chain ⟨x1, x2, x3, x4, x5, x6, x7, x8⟩ x0 ⟨xs0, xs1, xs2⟩ 0).h (chain ⟨x1, x2, x3, x4, x5, x6, x7, x8⟩ x0 ⟨xs0, xs1, xs2⟩ 0).c

theorem m1_B : kernelRun0_B.sl.v190 c arg1 harg1 arg2 harg2 arg3 harg3 arg4 harg4 arg5 harg5 arg6 harg6 arg7 harg7 arg8 harg8 arg9 harg9 arg13 harg13 arg14 harg14 arg15 harg15 x0 x1 x2 x3 x4 x5 x6 x7 x8 xs0 xs1 xs2
    = (chain ⟨x1, x2, x3, x4, x5, x6, x7, x8⟩ x0 ⟨xs0, xs1, xs2⟩ 1).m := by
  unfold kernelRun0_B.sl.v190 kernelRun0_B.sl.HS2_1
  refine (View.readCov_cons_toLoadRect _ _ _ _).trans ?_
  simp only [kernelRun0_B.sl.r_6, kernelRun0_B.sl.r_7, kernelRun0_B.sl.r, kernelRun0_B.sl.r_1, kernelRun0_B.sl.r_2, kernelRun0_B.sl.r_3, kernelRun0_B.sl.r_4, kernelRun0_B.sl.r_5, View.readAt_eq_ld, harg1.read_unread, harg2.read_unread, harg3.read_unread, harg4.read_unread, harg5.read_unread, harg6.read_unread, harg7.read_unread, harg8.read_unread, harg9.read_unread, harg13.read_unread, harg14.read_unread, harg15.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step0_m ⟨x1, x2, x3, x4, x5, x6, x7, x8⟩ (slab x0 0) (chain ⟨x1, x2, x3, x4, x5, x6, x7, x8⟩ x0 ⟨xs0, xs1, xs2⟩ 0).h (chain ⟨x1, x2, x3, x4, x5, x6, x7, x8⟩ x0 ⟨xs0, xs1, xs2⟩ 0).c (chain ⟨x1, x2, x3, x4, x5, x6, x7, x8⟩ x0 ⟨xs0, xs1, xs2⟩ 0).m

theorem h2_B : kernelRun0_B.sl.v238 c arg1 harg1 arg2 harg2 arg3 harg3 arg4 harg4 arg5 harg5 arg6 harg6 arg7 harg7 arg8 harg8 arg9 harg9 arg13 harg13 arg14 harg14 x0 x1 x2 x3 x4 x5 x6 x7 x8 xs0 xs1
    = (chain ⟨x1, x2, x3, x4, x5, x6, x7, x8⟩ x0 ⟨xs0, xs1, xs2⟩ 2).h := by
  unfold kernelRun0_B.sl.v238 kernelRun0_B.sl.HS0_2
  refine (View.readCov_cons_toLoadRect _ _ _ _).trans ?_
  simp only [kernelRun0_B.sl.r_10, kernelRun0_B.sl.r_11, kernelRun0_B.sl.r_1, kernelRun0_B.sl.r_2, kernelRun0_B.sl.r_3, kernelRun0_B.sl.r_4, kernelRun0_B.sl.r_5, kernelRun0_B.sl.r_8, kernelRun0_B.sl.r_9, kernelRun0_B.sl.r, (c1_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (h1_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step1_h ⟨x1, x2, x3, x4, x5, x6, x7, x8⟩ (slab x0 1) (chain ⟨x1, x2, x3, x4, x5, x6, x7, x8⟩ x0 ⟨xs0, xs1, xs2⟩ 1).h (chain ⟨x1, x2, x3, x4, x5, x6, x7, x8⟩ x0 ⟨xs0, xs1, xs2⟩ 1).c

theorem c2_B : kernelRun0_B.sl.v255 c arg1 harg1 arg2 harg2 arg3 harg3 arg4 harg4 arg5 harg5 arg6 harg6 arg7 harg7 arg8 harg8 arg9 harg9 arg13 harg13 arg14 harg14 x0 x1 x2 x3 x4 x5 x6 x7 x8 xs0 xs1
    = (chain ⟨x1, x2, x3, x4, x5, x6, x7, x8⟩ x0 ⟨xs0, xs1, xs2⟩ 2).c := by
  unfold kernelRun0_B.sl.v255 kernelRun0_B.sl.HS1_2
  refine (View.readCov_cons_toLoadRect _ _ _ _).trans ?_
  simp only [kernelRun0_B.sl.r_10, kernelRun0_B.sl.r_11, kernelRun0_B.sl.r_1, kernelRun0_B.sl.r_2, kernelRun0_B.sl.r_3, kernelRun0_B.sl.r_4, kernelRun0_B.sl.r_5, kernelRun0_B.sl.r_8, kernelRun0_B.sl.r_9, kernelRun0_B.sl.r, (c1_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (h1_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step1_c ⟨x1, x2, x3, x4, x5, x6, x7, x8⟩ (slab x0 1) (chain ⟨x1, x2, x3, x4, x5, x6, x7, x8⟩ x0 ⟨xs0, xs1, xs2⟩ 1).h (chain ⟨x1, x2, x3, x4, x5, x6, x7, x8⟩ x0 ⟨xs0, xs1, xs2⟩ 1).c

theorem m2_B : kernelRun0_B.sl.v267 c arg1 harg1 arg2 harg2 arg3 harg3 arg4 harg4 arg5 harg5 arg6 harg6 arg7 harg7 arg8 harg8 arg9 harg9 arg13 harg13 arg14 harg14 arg15 harg15 x0 x1 x2 x3 x4 x5 x6 x7 x8 xs0 xs1 xs2
    = (chain ⟨x1, x2, x3, x4, x5, x6, x7, x8⟩ x0 ⟨xs0, xs1, xs2⟩ 2).m := by
  unfold kernelRun0_B.sl.v267 kernelRun0_B.sl.HS2_2
  refine (View.readCov_cons_toLoadRect _ _ _ _).trans ?_
  simp only [kernelRun0_B.sl.r_10, kernelRun0_B.sl.r_11, kernelRun0_B.sl.r_1, kernelRun0_B.sl.r_2, kernelRun0_B.sl.r_3, kernelRun0_B.sl.r_4, kernelRun0_B.sl.r_5, kernelRun0_B.sl.r_8, kernelRun0_B.sl.r_9, kernelRun0_B.sl.r, (c1_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (m1_B c arg1 harg1 arg2 harg2 arg3 harg3 arg4 harg4 arg5 harg5 arg6 harg6 arg7 harg7 arg8 harg8 arg9 harg9 arg13 harg13 arg14 harg14 arg15 harg15 x0 x1 x2 x3 x4 x5 x6 x7 x8 xs0 xs1 xs2), (h1_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg13.read_unread, harg14.read_unread, harg15.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step1_m ⟨x1, x2, x3, x4, x5, x6, x7, x8⟩ (slab x0 1) (chain ⟨x1, x2, x3, x4, x5, x6, x7, x8⟩ x0 ⟨xs0, xs1, xs2⟩ 1).h (chain ⟨x1, x2, x3, x4, x5, x6, x7, x8⟩ x0 ⟨xs0, xs1, xs2⟩ 1).c (chain ⟨x1, x2, x3, x4, x5, x6, x7, x8⟩ x0 ⟨xs0, xs1, xs2⟩ 1).m

theorem h3_B : kernelRun0_B.sl.v315 c arg1 harg1 arg2 harg2 arg3 harg3 arg4 harg4 arg5 harg5 arg6 harg6 arg7 harg7 arg8 harg8 arg9 harg9 arg13 harg13 arg14 harg14 x0 x1 x2 x3 x4 x5 x6 x7 x8 xs0 xs1
    = (chain ⟨x1, x2, x3, x4, x5, x6, x7, x8⟩ x0 ⟨xs0, xs1, xs2⟩ 3).h := by
  unfold kernelRun0_B.sl.v315 kernelRun0_B.sl.HS0_3
  refine (View.readCov_cons_toLoadRect _ _ _ _).trans ?_
  simp only [kernelRun0_B.sl.r_15, kernelRun0_B.sl.r_16, kernelRun0_B.sl.r_17, kernelRun0_B.sl.r_18, kernelRun0_B.sl.r_1, kernelRun0_B.sl.r_3, kernelRun0_B.sl.r_4, kernelRun0_B.sl.r_5, kernelRun0_B.sl.r_12, kernelRun0_B.sl.r_13, kernelRun0_B.sl.r_14, kernelRun0_B.sl.r_2, kernelRun0_B.sl.r, (c2_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (h2_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step2_h ⟨x1, x2, x3, x4, x5, x6, x7, x8⟩ (slab x0 2) (chain ⟨x1, x2, x3, x4, x5, x6, x7, x8⟩ x0 ⟨xs0, xs1, xs2⟩ 2).h (chain ⟨x1, x2, x3, x4, x5, x6, x7, x8⟩ x0 ⟨xs0, xs1, xs2⟩ 2).c

theorem c3_B : kernelRun0_B.sl.v332 c arg1 harg1 arg2 harg2 arg3 harg3 arg4 harg4 arg5 harg5 arg6 harg6 arg7 harg7 arg8 harg8 arg9 harg9 arg13 harg13 arg14 harg14 x0 x1 x2 x3 x4 x5 x6 x7 x8 xs0 xs1
    = (chain ⟨x1, x2, x3, x4, x5, x6, x7, x8⟩ x0 ⟨xs0, xs1, xs2⟩ 3).c := by
  unfold kernelRun0_B.sl.v332 kernelRun0_B.sl.HS1_3
  refine (View.readCov_cons_toLoadRect _ _ _ _).trans ?_
  simp only [kernelRun0_B.sl.r_15, kernelRun0_B.sl.r_16, kernelRun0_B.sl.r_17, kernelRun0_B.sl.r_1, kernelRun0_B.sl.r_3, kernelRun0_B.sl.r_4, kernelRun0_B.sl.r_5, kernelRun0_B.sl.r_12, kernelRun0_B.sl.r_13, kernelRun0_B.sl.r_14, kernelRun0_B.sl.r_2, kernelRun0_B.sl.r, (c2_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (h2_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step2_c ⟨x1, x2, x3, x4, x5, x6, x7, x8⟩ (slab x0 2) (chain ⟨x1, x2, x3, x4, x5, x6, x7, x8⟩ x0 ⟨xs0, xs1, xs2⟩ 2).h (chain ⟨x1, x2, x3, x4, x5, x6, x7, x8⟩ x0 ⟨xs0, xs1, xs2⟩ 2).c

theorem m3_B : kernelRun0_B.sl.v344 c arg1 harg1 arg2 harg2 arg3 harg3 arg4 harg4 arg5 harg5 arg6 harg6 arg7 harg7 arg8 harg8 arg9 harg9 arg13 harg13 arg14 harg14 arg15 harg15 x0 x1 x2 x3 x4 x5 x6 x7 x8 xs0 xs1 xs2
    = (chain ⟨x1, x2, x3, x4, x5, x6, x7, x8⟩ x0 ⟨xs0, xs1, xs2⟩ 3).m := by
  unfold kernelRun0_B.sl.v344 kernelRun0_B.sl.HS2_3
  refine (View.readCov_cons_toLoadRect _ _ _ _).trans ?_
  simp only [kernelRun0_B.sl.r_15, kernelRun0_B.sl.r_16, kernelRun0_B.sl.r_17, kernelRun0_B.sl.r_18, kernelRun0_B.sl.r_1, kernelRun0_B.sl.r_3, kernelRun0_B.sl.r_4, kernelRun0_B.sl.r_5, kernelRun0_B.sl.r_12, kernelRun0_B.sl.r_13, kernelRun0_B.sl.r_14, kernelRun0_B.sl.r_2, kernelRun0_B.sl.r, (c2_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (m2_B c arg1 harg1 arg2 harg2 arg3 harg3 arg4 harg4 arg5 harg5 arg6 harg6 arg7 harg7 arg8 harg8 arg9 harg9 arg13 harg13 arg14 harg14 arg15 harg15 x0 x1 x2 x3 x4 x5 x6 x7 x8 xs0 xs1 xs2), (h2_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg13.read_unread, harg14.read_unread, harg15.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step2_m ⟨x1, x2, x3, x4, x5, x6, x7, x8⟩ (slab x0 2) (chain ⟨x1, x2, x3, x4, x5, x6, x7, x8⟩ x0 ⟨xs0, xs1, xs2⟩ 2).h (chain ⟨x1, x2, x3, x4, x5, x6, x7, x8⟩ x0 ⟨xs0, xs1, xs2⟩ 2).c (chain ⟨x1, x2, x3, x4, x5, x6, x7, x8⟩ x0 ⟨xs0, xs1, xs2⟩ 2).m

theorem h4_B : kernelRun0_B.sl.v392 c arg1 harg1 arg2 harg2 arg3 harg3 arg4 harg4 arg5 harg5 arg6 harg6 arg7 harg7 arg8 harg8 arg9 harg9 arg13 harg13 arg14 harg14 x0 x1 x2 x3 x4 x5 x6 x7 x8 xs0 xs1
    = (chain ⟨x1, x2, x3, x4, x5, x6, x7, x8⟩ x0 ⟨xs0, xs1, xs2⟩ 4).h := by
  unfold kernelRun0_B.sl.v392 kernelRun0_B.sl.HS0_4
  refine (View.readCov_cons_toLoadRect _ _ _ _).trans ?_
  simp only [kernelRun0_B.sl.r_21, kernelRun0_B.sl.r_1, kernelRun0_B.sl.r_3, kernelRun0_B.sl.r_5, kernelRun0_B.sl.r_19, kernelRun0_B.sl.r, kernelRun0_B.sl.r_2, kernelRun0_B.sl.r_4, (h3_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (c3_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step3_h ⟨x1, x2, x3, x4, x5, x6, x7, x8⟩ (slab x0 3) (chain ⟨x1, x2, x3, x4, x5, x6, x7, x8⟩ x0 ⟨xs0, xs1, xs2⟩ 3).h (chain ⟨x1, x2, x3, x4, x5, x6, x7, x8⟩ x0 ⟨xs0, xs1, xs2⟩ 3).c

theorem c4_B : kernelRun0_B.sl.v409 c arg1 harg1 arg2 harg2 arg3 harg3 arg4 harg4 arg5 harg5 arg6 harg6 arg7 harg7 arg8 harg8 arg9 harg9 arg13 harg13 arg14 harg14 x0 x1 x2 x3 x4 x5 x6 x7 x8 xs0 xs1
    = (chain ⟨x1, x2, x3, x4, x5, x6, x7, x8⟩ x0 ⟨xs0, xs1, xs2⟩ 4).c := by
  unfold kernelRun0_B.sl.v409 kernelRun0_B.sl.HS1_4
  refine (View.readCov_cons_toLoadRect _ _ _ _).trans ?_
  simp only [kernelRun0_B.sl.r_20, kernelRun0_B.sl.r_1, kernelRun0_B.sl.r_3, kernelRun0_B.sl.r_5, kernelRun0_B.sl.r_19, kernelRun0_B.sl.r, kernelRun0_B.sl.r_2, kernelRun0_B.sl.r_4, (h3_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (c3_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step3_c ⟨x1, x2, x3, x4, x5, x6, x7, x8⟩ (slab x0 3) (chain ⟨x1, x2, x3, x4, x5, x6, x7, x8⟩ x0 ⟨xs0, xs1, xs2⟩ 3).h (chain ⟨x1, x2, x3, x4, x5, x6, x7, x8⟩ x0 ⟨xs0, xs1, xs2⟩ 3).c

theorem m4_B : kernelRun0_B.sl.v421 c arg1 harg1 arg2 harg2 arg3 harg3 arg4 harg4 arg5 harg5 arg6 harg6 arg7 harg7 arg8 harg8 arg9 harg9 arg13 harg13 arg14 harg14 arg15 harg15 x0 x1 x2 x3 x4 x5 x6 x7 x8 xs0 xs1 xs2
    = (chain ⟨x1, x2, x3, x4, x5, x6, x7, x8⟩ x0 ⟨xs0, xs1, xs2⟩ 4).m := by
  unfold kernelRun0_B.sl.v421 kernelRun0_B.sl.HS2_4
  refine (View.readCov_cons_toLoadRect _ _ _ _).trans ?_
  simp only [kernelRun0_B.sl.r_21, kernelRun0_B.sl.r_1, kernelRun0_B.sl.r_3, kernelRun0_B.sl.r_5, kernelRun0_B.sl.r_19, kernelRun0_B.sl.r, kernelRun0_B.sl.r_2, kernelRun0_B.sl.r_4, (m3_B c arg1 harg1 arg2 harg2 arg3 harg3 arg4 harg4 arg5 harg5 arg6 harg6 arg7 harg7 arg8 harg8 arg9 harg9 arg13 harg13 arg14 harg14 arg15 harg15 x0 x1 x2 x3 x4 x5 x6 x7 x8 xs0 xs1 xs2), (h3_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (c3_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg13.read_unread, harg14.read_unread, harg15.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step3_m ⟨x1, x2, x3, x4, x5, x6, x7, x8⟩ (slab x0 3) (chain ⟨x1, x2, x3, x4, x5, x6, x7, x8⟩ x0 ⟨xs0, xs1, xs2⟩ 3).h (chain ⟨x1, x2, x3, x4, x5, x6, x7, x8⟩ x0 ⟨xs0, xs1, xs2⟩ 3).c (chain ⟨x1, x2, x3, x4, x5, x6, x7, x8⟩ x0 ⟨xs0, xs1, xs2⟩ 3).m

theorem h5_B : kernelRun0_B.sl.v469 c arg1 harg1 arg2 harg2 arg3 harg3 arg4 harg4 arg5 harg5 arg6 harg6 arg7 harg7 arg8 harg8 arg9 harg9 arg13 harg13 arg14 harg14 x0 x1 x2 x3 x4 x5 x6 x7 x8 xs0 xs1
    = (chain ⟨x1, x2, x3, x4, x5, x6, x7, x8⟩ x0 ⟨xs0, xs1, xs2⟩ 5).h := by
  unfold kernelRun0_B.sl.v469 kernelRun0_B.sl.HS0_5
  refine (View.readCov_cons_toLoadRect _ _ _ _).trans ?_
  simp only [kernelRun0_B.sl.r_22, kernelRun0_B.sl.r, kernelRun0_B.sl.r_1, kernelRun0_B.sl.r_2, kernelRun0_B.sl.r_3, kernelRun0_B.sl.r_4, kernelRun0_B.sl.r_5, (h4_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (c4_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step4_h ⟨x1, x2, x3, x4, x5, x6, x7, x8⟩ (slab x0 4) (chain ⟨x1, x2, x3, x4, x5, x6, x7, x8⟩ x0 ⟨xs0, xs1, xs2⟩ 4).h (chain ⟨x1, x2, x3, x4, x5, x6, x7, x8⟩ x0 ⟨xs0, xs1, xs2⟩ 4).c

theorem c5_B : kernelRun0_B.sl.v486 c arg1 harg1 arg2 harg2 arg3 harg3 arg4 harg4 arg5 harg5 arg6 harg6 arg7 harg7 arg8 harg8 arg9 harg9 arg13 harg13 arg14 harg14 x0 x1 x2 x3 x4 x5 x6 x7 x8 xs0 xs1
    = (chain ⟨x1, x2, x3, x4, x5, x6, x7, x8⟩ x0 ⟨xs0, xs1, xs2⟩ 5).c := by
  unfold kernelRun0_B.sl.v486 kernelRun0_B.sl.HS1_5
  refine (View.readCov_cons_toLoadRect _ _ _ _).trans ?_
  simp only [kernelRun0_B.sl.r_22, kernelRun0_B.sl.r, kernelRun0_B.sl.r_1, kernelRun0_B.sl.r_2, kernelRun0_B.sl.r_3, kernelRun0_B.sl.r_4, kernelRun0_B.sl.r_5, (h4_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (c4_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step4_c ⟨x1, x2, x3, x4, x5, x6, x7, x8⟩ (slab x0 4) (chain ⟨x1, x2, x3, x4, x5, x6, x7, x8⟩ x0 ⟨xs0, xs1, xs2⟩ 4).h (chain ⟨x1, x2, x3, x4, x5, x6, x7, x8⟩ x0 ⟨xs0, xs1, xs2⟩ 4).c

theorem m5_B : kernelRun0_B.sl.v498 c arg1 harg1 arg2 harg2 arg3 harg3 arg4 harg4 arg5 harg5 arg6 harg6 arg7 harg7 arg8 harg8 arg9 harg9 arg13 harg13 arg14 harg14 arg15 harg15 x0 x1 x2 x3 x4 x5 x6 x7 x8 xs0 xs1 xs2
    = (chain ⟨x1, x2, x3, x4, x5, x6, x7, x8⟩ x0 ⟨xs0, xs1, xs2⟩ 5).m := by
  unfold kernelRun0_B.sl.v498 kernelRun0_B.sl.HS2_5
  refine (View.readCov_cons_toLoadRect _ _ _ _).trans ?_
  simp only [kernelRun0_B.sl.r_23, kernelRun0_B.sl.r_22, kernelRun0_B.sl.r, kernelRun0_B.sl.r_1, kernelRun0_B.sl.r_2, kernelRun0_B.sl.r_3, kernelRun0_B.sl.r_4, kernelRun0_B.sl.r_5, (m4_B c arg1 harg1 arg2 harg2 arg3 harg3 arg4 harg4 arg5 harg5 arg6 harg6 arg7 harg7 arg8 harg8 arg9 harg9 arg13 harg13 arg14 harg14 arg15 harg15 x0 x1 x2 x3 x4 x5 x6 x7 x8 xs0 xs1 xs2), (h4_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (c4_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg13.read_unread, harg14.read_unread, harg15.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step4_m ⟨x1, x2, x3, x4, x5, x6, x7, x8⟩ (slab x0 4) (chain ⟨x1, x2, x3, x4, x5, x6, x7, x8⟩ x0 ⟨xs0, xs1, xs2⟩ 4).h (chain ⟨x1, x2, x3, x4, x5, x6, x7, x8⟩ x0 ⟨xs0, xs1, xs2⟩ 4).c (chain ⟨x1, x2, x3, x4, x5, x6, x7, x8⟩ x0 ⟨xs0, xs1, xs2⟩ 4).m

theorem h6_B : kernelRun0_B.sl.v546 c arg1 harg1 arg2 harg2 arg3 harg3 arg4 harg4 arg5 harg5 arg6 harg6 arg7 harg7 arg8 harg8 arg9 harg9 arg13 harg13 arg14 harg14 x0 x1 x2 x3 x4 x5 x6 x7 x8 xs0 xs1
    = (chain ⟨x1, x2, x3, x4, x5, x6, x7, x8⟩ x0 ⟨xs0, xs1, xs2⟩ 6).h := by
  unfold kernelRun0_B.sl.v546 kernelRun0_B.sl.HS0_6
  refine (View.readCov_cons_toLoadRect _ _ _ _).trans ?_
  simp only [kernelRun0_B.sl.r_24, kernelRun0_B.sl.r, kernelRun0_B.sl.r_1, kernelRun0_B.sl.r_2, kernelRun0_B.sl.r_3, kernelRun0_B.sl.r_4, kernelRun0_B.sl.r_5, (h5_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (c5_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step5_h ⟨x1, x2, x3, x4, x5, x6, x7, x8⟩ (slab x0 5) (chain ⟨x1, x2, x3, x4, x5, x6, x7, x8⟩ x0 ⟨xs0, xs1, xs2⟩ 5).h (chain ⟨x1, x2, x3, x4, x5, x6, x7, x8⟩ x0 ⟨xs0, xs1, xs2⟩ 5).c

theorem c6_B : kernelRun0_B.sl.v563 c arg1 harg1 arg2 harg2 arg3 harg3 arg4 harg4 arg5 harg5 arg6 harg6 arg7 harg7 arg8 harg8 arg9 harg9 arg13 harg13 arg14 harg14 x0 x1 x2 x3 x4 x5 x6 x7 x8 xs0 xs1
    = (chain ⟨x1, x2, x3, x4, x5, x6, x7, x8⟩ x0 ⟨xs0, xs1, xs2⟩ 6).c := by
  unfold kernelRun0_B.sl.v563 kernelRun0_B.sl.HS1_6
  refine (View.readCov_cons_toLoadRect _ _ _ _).trans ?_
  simp only [kernelRun0_B.sl.r_24, kernelRun0_B.sl.r, kernelRun0_B.sl.r_1, kernelRun0_B.sl.r_2, kernelRun0_B.sl.r_3, kernelRun0_B.sl.r_4, kernelRun0_B.sl.r_5, (h5_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (c5_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step5_c ⟨x1, x2, x3, x4, x5, x6, x7, x8⟩ (slab x0 5) (chain ⟨x1, x2, x3, x4, x5, x6, x7, x8⟩ x0 ⟨xs0, xs1, xs2⟩ 5).h (chain ⟨x1, x2, x3, x4, x5, x6, x7, x8⟩ x0 ⟨xs0, xs1, xs2⟩ 5).c

theorem m6_B : kernelRun0_B.sl.v575 c arg1 harg1 arg2 harg2 arg3 harg3 arg4 harg4 arg5 harg5 arg6 harg6 arg7 harg7 arg8 harg8 arg9 harg9 arg13 harg13 arg14 harg14 arg15 harg15 x0 x1 x2 x3 x4 x5 x6 x7 x8 xs0 xs1 xs2
    = (chain ⟨x1, x2, x3, x4, x5, x6, x7, x8⟩ x0 ⟨xs0, xs1, xs2⟩ 6).m := by
  unfold kernelRun0_B.sl.v575 kernelRun0_B.sl.HS2_6
  refine (View.readCov_cons_toLoadRect _ _ _ _).trans ?_
  simp only [kernelRun0_B.sl.r_24, kernelRun0_B.sl.r, kernelRun0_B.sl.r_1, kernelRun0_B.sl.r_2, kernelRun0_B.sl.r_3, kernelRun0_B.sl.r_4, kernelRun0_B.sl.r_5, (h5_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (c5_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (m5_B c arg1 harg1 arg2 harg2 arg3 harg3 arg4 harg4 arg5 harg5 arg6 harg6 arg7 harg7 arg8 harg8 arg9 harg9 arg13 harg13 arg14 harg14 arg15 harg15 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg13.read_unread, harg14.read_unread, harg15.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step5_m ⟨x1, x2, x3, x4, x5, x6, x7, x8⟩ (slab x0 5) (chain ⟨x1, x2, x3, x4, x5, x6, x7, x8⟩ x0 ⟨xs0, xs1, xs2⟩ 5).h (chain ⟨x1, x2, x3, x4, x5, x6, x7, x8⟩ x0 ⟨xs0, xs1, xs2⟩ 5).c (chain ⟨x1, x2, x3, x4, x5, x6, x7, x8⟩ x0 ⟨xs0, xs1, xs2⟩ 5).m

theorem h7_B : kernelRun0_B.sl.v623 c arg1 harg1 arg2 harg2 arg3 harg3 arg4 harg4 arg5 harg5 arg6 harg6 arg7 harg7 arg8 harg8 arg9 harg9 arg13 harg13 arg14 harg14 x0 x1 x2 x3 x4 x5 x6 x7 x8 xs0 xs1
    = (chain ⟨x1, x2, x3, x4, x5, x6, x7, x8⟩ x0 ⟨xs0, xs1, xs2⟩ 7).h := by
  unfold kernelRun0_B.sl.v623 kernelRun0_B.sl.HS0_7
  refine (View.readCov_cons_toLoadRect _ _ _ _).trans ?_
  simp only [kernelRun0_B.sl.r_25, kernelRun0_B.sl.r_26, kernelRun0_B.sl.r, kernelRun0_B.sl.r_1, kernelRun0_B.sl.r_2, kernelRun0_B.sl.r_3, kernelRun0_B.sl.r_4, kernelRun0_B.sl.r_5, (c6_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (h6_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step6_h ⟨x1, x2, x3, x4, x5, x6, x7, x8⟩ (slab x0 6) (chain ⟨x1, x2, x3, x4, x5, x6, x7, x8⟩ x0 ⟨xs0, xs1, xs2⟩ 6).h (chain ⟨x1, x2, x3, x4, x5, x6, x7, x8⟩ x0 ⟨xs0, xs1, xs2⟩ 6).c

theorem c7_B : kernelRun0_B.sl.v640 c arg1 harg1 arg2 harg2 arg3 harg3 arg4 harg4 arg5 harg5 arg6 harg6 arg7 harg7 arg8 harg8 arg9 harg9 arg13 harg13 arg14 harg14 x0 x1 x2 x3 x4 x5 x6 x7 x8 xs0 xs1
    = (chain ⟨x1, x2, x3, x4, x5, x6, x7, x8⟩ x0 ⟨xs0, xs1, xs2⟩ 7).c := by
  unfold kernelRun0_B.sl.v640 kernelRun0_B.sl.HS1_7
  refine (View.readCov_cons_toLoadRect _ _ _ _).trans ?_
  simp only [kernelRun0_B.sl.r_25, kernelRun0_B.sl.r_26, kernelRun0_B.sl.r, kernelRun0_B.sl.r_1, kernelRun0_B.sl.r_2, kernelRun0_B.sl.r_3, kernelRun0_B.sl.r_4, kernelRun0_B.sl.r_5, (c6_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (h6_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step6_c ⟨x1, x2, x3, x4, x5, x6, x7, x8⟩ (slab x0 6) (chain ⟨x1, x2, x3, x4, x5, x6, x7, x8⟩ x0 ⟨xs0, xs1, xs2⟩ 6).h (chain ⟨x1, x2, x3, x4, x5, x6, x7, x8⟩ x0 ⟨xs0, xs1, xs2⟩ 6).c

theorem m7_B : kernelRun0_B.sl.v652 c arg1 harg1 arg2 harg2 arg3 harg3 arg4 harg4 arg5 harg5 arg6 harg6 arg7 harg7 arg8 harg8 arg9 harg9 arg13 harg13 arg14 harg14 arg15 harg15 x0 x1 x2 x3 x4 x5 x6 x7 x8 xs0 xs1 xs2
    = (chain ⟨x1, x2, x3, x4, x5, x6, x7, x8⟩ x0 ⟨xs0, xs1, xs2⟩ 7).m := by
  unfold kernelRun0_B.sl.v652 kernelRun0_B.sl.HS2_7
  refine (View.readCov_cons_toLoadRect _ _ _ _).trans ?_
  simp only [kernelRun0_B.sl.r_25, kernelRun0_B.sl.r_26, kernelRun0_B.sl.r, kernelRun0_B.sl.r_1, kernelRun0_B.sl.r_2, kernelRun0_B.sl.r_3, kernelRun0_B.sl.r_4, kernelRun0_B.sl.r_5, (c6_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (m6_B c arg1 harg1 arg2 harg2 arg3 harg3 arg4 harg4 arg5 harg5 arg6 harg6 arg7 harg7 arg8 harg8 arg9 harg9 arg13 harg13 arg14 harg14 arg15 harg15 x0 x1 x2 x3 x4 x5 x6 x7 x8 xs0 xs1 xs2), (h6_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg13.read_unread, harg14.read_unread, harg15.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step6_m ⟨x1, x2, x3, x4, x5, x6, x7, x8⟩ (slab x0 6) (chain ⟨x1, x2, x3, x4, x5, x6, x7, x8⟩ x0 ⟨xs0, xs1, xs2⟩ 6).h (chain ⟨x1, x2, x3, x4, x5, x6, x7, x8⟩ x0 ⟨xs0, xs1, xs2⟩ 6).c (chain ⟨x1, x2, x3, x4, x5, x6, x7, x8⟩ x0 ⟨xs0, xs1, xs2⟩ 6).m

theorem h8_B : kernelRun0_B.sl.v700 c arg1 harg1 arg2 harg2 arg3 harg3 arg4 harg4 arg5 harg5 arg6 harg6 arg7 harg7 arg8 harg8 arg9 harg9 arg13 harg13 arg14 harg14 x0 x1 x2 x3 x4 x5 x6 x7 x8 xs0 xs1
    = (chain ⟨x1, x2, x3, x4, x5, x6, x7, x8⟩ x0 ⟨xs0, xs1, xs2⟩ 8).h := by
  unfold kernelRun0_B.sl.v700 kernelRun0_B.sl.HS0_8
  refine (View.readCov_cons_toLoadRect _ _ _ _).trans ?_
  simp only [kernelRun0_B.sl.r_29, kernelRun0_B.sl.r_30, kernelRun0_B.sl.r_1, kernelRun0_B.sl.r_2, kernelRun0_B.sl.r_3, kernelRun0_B.sl.r_4, kernelRun0_B.sl.r_5, kernelRun0_B.sl.r_27, kernelRun0_B.sl.r_28, kernelRun0_B.sl.r, (c7_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (h7_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step7_h ⟨x1, x2, x3, x4, x5, x6, x7, x8⟩ (slab x0 7) (chain ⟨x1, x2, x3, x4, x5, x6, x7, x8⟩ x0 ⟨xs0, xs1, xs2⟩ 7).h (chain ⟨x1, x2, x3, x4, x5, x6, x7, x8⟩ x0 ⟨xs0, xs1, xs2⟩ 7).c

theorem c8_B : kernelRun0_B.sl.v717 c arg1 harg1 arg2 harg2 arg3 harg3 arg4 harg4 arg5 harg5 arg6 harg6 arg7 harg7 arg8 harg8 arg9 harg9 arg13 harg13 arg14 harg14 x0 x1 x2 x3 x4 x5 x6 x7 x8 xs0 xs1
    = (chain ⟨x1, x2, x3, x4, x5, x6, x7, x8⟩ x0 ⟨xs0, xs1, xs2⟩ 8).c := by
  unfold kernelRun0_B.sl.v717 kernelRun0_B.sl.HS1_8
  refine (View.readCov_cons_toLoadRect _ _ _ _).trans ?_
  simp only [kernelRun0_B.sl.r_29, kernelRun0_B.sl.r_30, kernelRun0_B.sl.r_1, kernelRun0_B.sl.r_2, kernelRun0_B.sl.r_3, kernelRun0_B.sl.r_4, kernelRun0_B.sl.r_5, kernelRun0_B.sl.r_27, kernelRun0_B.sl.r_28, kernelRun0_B.sl.r, (c7_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (h7_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step7_c ⟨x1, x2, x3, x4, x5, x6, x7, x8⟩ (slab x0 7) (chain ⟨x1, x2, x3, x4, x5, x6, x7, x8⟩ x0 ⟨xs0, xs1, xs2⟩ 7).h (chain ⟨x1, x2, x3, x4, x5, x6, x7, x8⟩ x0 ⟨xs0, xs1, xs2⟩ 7).c

theorem m8_B : kernelRun0_B.sl.v729 c arg1 harg1 arg2 harg2 arg3 harg3 arg4 harg4 arg5 harg5 arg6 harg6 arg7 harg7 arg8 harg8 arg9 harg9 arg13 harg13 arg14 harg14 arg15 harg15 x0 x1 x2 x3 x4 x5 x6 x7 x8 xs0 xs1 xs2
    = (chain ⟨x1, x2, x3, x4, x5, x6, x7, x8⟩ x0 ⟨xs0, xs1, xs2⟩ 8).m := by
  unfold kernelRun0_B.sl.v729 kernelRun0_B.sl.HS2_8
  refine (View.readCov_cons_toLoadRect _ _ _ _).trans ?_
  simp only [kernelRun0_B.sl.r_29, kernelRun0_B.sl.r_30, kernelRun0_B.sl.r_1, kernelRun0_B.sl.r_2, kernelRun0_B.sl.r_3, kernelRun0_B.sl.r_4, kernelRun0_B.sl.r_5, kernelRun0_B.sl.r_27, kernelRun0_B.sl.r_28, kernelRun0_B.sl.r, (c7_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (m7_B c arg1 harg1 arg2 harg2 arg3 harg3 arg4 harg4 arg5 harg5 arg6 harg6 arg7 harg7 arg8 harg8 arg9 harg9 arg13 harg13 arg14 harg14 arg15 harg15 x0 x1 x2 x3 x4 x5 x6 x7 x8 xs0 xs1 xs2), (h7_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg13.read_unread, harg14.read_unread, harg15.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step7_m ⟨x1, x2, x3, x4, x5, x6, x7, x8⟩ (slab x0 7) (chain ⟨x1, x2, x3, x4, x5, x6, x7, x8⟩ x0 ⟨xs0, xs1, xs2⟩ 7).h (chain ⟨x1, x2, x3, x4, x5, x6, x7, x8⟩ x0 ⟨xs0, xs1, xs2⟩ 7).c (chain ⟨x1, x2, x3, x4, x5, x6, x7, x8⟩ x0 ⟨xs0, xs1, xs2⟩ 7).m

theorem h9_B : kernelRun0_B.sl.v777 c arg1 harg1 arg2 harg2 arg3 harg3 arg4 harg4 arg5 harg5 arg6 harg6 arg7 harg7 arg8 harg8 arg9 harg9 arg13 harg13 arg14 harg14 x0 x1 x2 x3 x4 x5 x6 x7 x8 xs0 xs1
    = (chain ⟨x1, x2, x3, x4, x5, x6, x7, x8⟩ x0 ⟨xs0, xs1, xs2⟩ 9).h := by
  unfold kernelRun0_B.sl.v777 kernelRun0_B.sl.HS0_9
  refine (View.readCov_cons_toLoadRect _ _ _ _).trans ?_
  simp only [kernelRun0_B.sl.r_34, kernelRun0_B.sl.r_35, kernelRun0_B.sl.r_36, kernelRun0_B.sl.r_37, kernelRun0_B.sl.r_1, kernelRun0_B.sl.r_3, kernelRun0_B.sl.r_4, kernelRun0_B.sl.r_5, kernelRun0_B.sl.r_31, kernelRun0_B.sl.r_32, kernelRun0_B.sl.r_33, kernelRun0_B.sl.r_2, kernelRun0_B.sl.r, (c8_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (h8_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step8_h ⟨x1, x2, x3, x4, x5, x6, x7, x8⟩ (slab x0 8) (chain ⟨x1, x2, x3, x4, x5, x6, x7, x8⟩ x0 ⟨xs0, xs1, xs2⟩ 8).h (chain ⟨x1, x2, x3, x4, x5, x6, x7, x8⟩ x0 ⟨xs0, xs1, xs2⟩ 8).c

theorem c9_B : kernelRun0_B.sl.v794 c arg1 harg1 arg2 harg2 arg3 harg3 arg4 harg4 arg5 harg5 arg6 harg6 arg7 harg7 arg8 harg8 arg9 harg9 arg13 harg13 arg14 harg14 x0 x1 x2 x3 x4 x5 x6 x7 x8 xs0 xs1
    = (chain ⟨x1, x2, x3, x4, x5, x6, x7, x8⟩ x0 ⟨xs0, xs1, xs2⟩ 9).c := by
  unfold kernelRun0_B.sl.v794 kernelRun0_B.sl.HS1_9
  refine (View.readCov_cons_toLoadRect _ _ _ _).trans ?_
  simp only [kernelRun0_B.sl.r_34, kernelRun0_B.sl.r_35, kernelRun0_B.sl.r_36, kernelRun0_B.sl.r_1, kernelRun0_B.sl.r_3, kernelRun0_B.sl.r_4, kernelRun0_B.sl.r_5, kernelRun0_B.sl.r_31, kernelRun0_B.sl.r_32, kernelRun0_B.sl.r_33, kernelRun0_B.sl.r_2, kernelRun0_B.sl.r, (c8_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (h8_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step8_c ⟨x1, x2, x3, x4, x5, x6, x7, x8⟩ (slab x0 8) (chain ⟨x1, x2, x3, x4, x5, x6, x7, x8⟩ x0 ⟨xs0, xs1, xs2⟩ 8).h (chain ⟨x1, x2, x3, x4, x5, x6, x7, x8⟩ x0 ⟨xs0, xs1, xs2⟩ 8).c

theorem m9_B : kernelRun0_B.sl.v806 c arg1 harg1 arg2 harg2 arg3 harg3 arg4 harg4 arg5 harg5 arg6 harg6 arg7 harg7 arg8 harg8 arg9 harg9 arg13 harg13 arg14 harg14 arg15 harg15 x0 x1 x2 x3 x4 x5 x6 x7 x8 xs0 xs1 xs2
    = (chain ⟨x1, x2, x3, x4, x5, x6, x7, x8⟩ x0 ⟨xs0, xs1, xs2⟩ 9).m := by
  unfold kernelRun0_B.sl.v806 kernelRun0_B.sl.HS2_9
  refine (View.readCov_cons_toLoadRect _ _ _ _).trans ?_
  simp only [kernelRun0_B.sl.r_34, kernelRun0_B.sl.r_35, kernelRun0_B.sl.r_36, kernelRun0_B.sl.r_37, kernelRun0_B.sl.r_1, kernelRun0_B.sl.r_3, kernelRun0_B.sl.r_4, kernelRun0_B.sl.r_5, kernelRun0_B.sl.r_31, kernelRun0_B.sl.r_32, kernelRun0_B.sl.r_33, kernelRun0_B.sl.r_2, kernelRun0_B.sl.r, (c8_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (m8_B c arg1 harg1 arg2 harg2 arg3 harg3 arg4 harg4 arg5 harg5 arg6 harg6 arg7 harg7 arg8 harg8 arg9 harg9 arg13 harg13 arg14 harg14 arg15 harg15 x0 x1 x2 x3 x4 x5 x6 x7 x8 xs0 xs1 xs2), (h8_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg13.read_unread, harg14.read_unread, harg15.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step8_m ⟨x1, x2, x3, x4, x5, x6, x7, x8⟩ (slab x0 8) (chain ⟨x1, x2, x3, x4, x5, x6, x7, x8⟩ x0 ⟨xs0, xs1, xs2⟩ 8).h (chain ⟨x1, x2, x3, x4, x5, x6, x7, x8⟩ x0 ⟨xs0, xs1, xs2⟩ 8).c (chain ⟨x1, x2, x3, x4, x5, x6, x7, x8⟩ x0 ⟨xs0, xs1, xs2⟩ 8).m

theorem out_h_B : sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 xs2
    = (chain ⟨x1, x2, x3, x4, x5, x6, x7, x8⟩ x0 ⟨xs0, xs1, xs2⟩ 10).h := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 xs2)]
  unfold kernelRun0_B
  dsimp only
  rw [View.canon_cons_unit_zero (S := S256x256) off_zero]
  simp only [kernelRun0_B.sl.r_40, kernelRun0_B.sl.r_1, kernelRun0_B.sl.r_3, kernelRun0_B.sl.r_5, kernelRun0_B.sl.r_38, kernelRun0_B.sl.r, kernelRun0_B.sl.r_2, kernelRun0_B.sl.r_4, (h9_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (c9_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step9_h ⟨x1, x2, x3, x4, x5, x6, x7, x8⟩ (slab x0 9) (chain ⟨x1, x2, x3, x4, x5, x6, x7, x8⟩ x0 ⟨xs0, xs1, xs2⟩ 9).h (chain ⟨x1, x2, x3, x4, x5, x6, x7, x8⟩ x0 ⟨xs0, xs1, xs2⟩ 9).c

theorem out_c_B : sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 xs2
    = (chain ⟨x1, x2, x3, x4, x5, x6, x7, x8⟩ x0 ⟨xs0, xs1, xs2⟩ 10).c := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 xs2)]
  unfold kernelRun0_B
  dsimp only
  rw [View.canon_cons_unit_zero (S := S256x256) off_zero]
  simp only [kernelRun0_B.sl.r_39, kernelRun0_B.sl.r_1, kernelRun0_B.sl.r_3, kernelRun0_B.sl.r_5, kernelRun0_B.sl.r_38, kernelRun0_B.sl.r, kernelRun0_B.sl.r_2, kernelRun0_B.sl.r_4, (h9_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (c9_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step9_c ⟨x1, x2, x3, x4, x5, x6, x7, x8⟩ (slab x0 9) (chain ⟨x1, x2, x3, x4, x5, x6, x7, x8⟩ x0 ⟨xs0, xs1, xs2⟩ 9).h (chain ⟨x1, x2, x3, x4, x5, x6, x7, x8⟩ x0 ⟨xs0, xs1, xs2⟩ 9).c

theorem out_m_B : sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 xs2
    = (chain ⟨x1, x2, x3, x4, x5, x6, x7, x8⟩ x0 ⟨xs0, xs1, xs2⟩ 10).m := by
  unfold sout0_B_2
  rw [View.read_writes_eq_canon _ _ _ (scover0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 xs2)]
  unfold kernelRun0_B
  dsimp only
  rw [View.canon_cons_unit_zero (S := S256x256) off_zero]
  simp only [kernelRun0_B.sl.r_40, kernelRun0_B.sl.r_1, kernelRun0_B.sl.r_3, kernelRun0_B.sl.r_5, kernelRun0_B.sl.r_38, kernelRun0_B.sl.r, kernelRun0_B.sl.r_2, kernelRun0_B.sl.r_4, (m9_B c arg1 harg1 arg2 harg2 arg3 harg3 arg4 harg4 arg5 harg5 arg6 harg6 arg7 harg7 arg8 harg8 arg9 harg9 arg13 harg13 arg14 harg14 arg15 harg15 x0 x1 x2 x3 x4 x5 x6 x7 x8 xs0 xs1 xs2), (h9_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (c9_B c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step9_m ⟨x1, x2, x3, x4, x5, x6, x7, x8⟩ (slab x0 9) (chain ⟨x1, x2, x3, x4, x5, x6, x7, x8⟩ x0 ⟨xs0, xs1, xs2⟩ 9).h (chain ⟨x1, x2, x3, x4, x5, x6, x7, x8⟩ x0 ⟨xs0, xs1, xs2⟩ 9).c (chain ⟨x1, x2, x3, x4, x5, x6, x7, x8⟩ x0 ⟨xs0, xs1, xs2⟩ 9).m

end Net.Ker
-- ==== Proof.KRunC.lean ====
module

public import proofs.«01_k».proof.Proof.KChain

/-! # What the body's run leaves: the last grid point

Every array that a step reads back is the one that the step before stored, so the run leaves the chain of ten steps. -/

@[expose] public section

set_option maxRecDepth 16384

noncomputable section

namespace Net.Ker

open Cert.KernelIdeal Cert.KernelIdeal.Gen
open Idealize.ShloMosaic Idealize.ShloMosaic.TcCoe

variable (c : Dev nD) (i : grid0.Coords) (arg1 : Memref sig .tc .vmem S10x17x512 .f32) (harg1 : arg1.IsWhole) (arg2 : Memref sig .tc .vmem S8x32 .f32) (harg2 : arg2.IsWhole) (arg3 : Memref sig .tc .vmem S2x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x32768 .f32) (harg6 : arg6.IsWhole) (arg7 : Memref sig .tc .vmem S128x1024 .bf16) (harg7 : arg7.IsWhole) (arg8 : Memref sig .tc .vmem S256x1024 .bf16) (harg8 : arg8.IsWhole) (arg9 : Memref sig .tc .vmem S1x1024 .f32) (harg9 : arg9.IsWhole) (arg10 : Memref sig .tc .vmem S256x1 .f32) (harg10 : arg10.IsWhole) (arg11 : Memref sig .tc .vmem S1x1 .f32) (harg11 : arg11.IsWhole) (arg12 : Memref sig .tc .vmem S256x1 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S256x256 .f32) (harg15 : arg15.IsWhole) (hc0 : ¬cond0_0 i) (hc1 : cond0_1 i)
    (x0 : Vec Ideal S10x17x512 .f32) (x1 : Vec Ideal S8x32 .f32) (x2 : Vec Ideal S2x128 .f32) (x3 : Vec Ideal S1x128 .f32) (x4 : Vec Ideal S128x128 .bf16) (x5 : Vec Ideal S1x32768 .f32) (x6 : Vec Ideal S128x1024 .bf16) (x7 : Vec Ideal S256x1024 .bf16) (x8 : Vec Ideal S1x1024 .f32) (x9 : Vec Ideal S256x1 .f32) (x10 : Vec Ideal S1x1 .f32) (xs0 : Vec Ideal S256x256 .f32) (xs1 : Vec Ideal S256x256 .f32) (xs2 : Vec Ideal S256x256 .f32)

theorem h1_C : kernelRun0_C.sl.v161 c arg1 harg1 arg2 harg2 arg3 harg3 arg4 harg4 arg5 harg5 arg6 harg6 arg7 harg7 arg8 harg8 arg9 harg9 arg13 harg13 arg14 harg14 x0 x1 x2 x3 x4 x5 x6 x7 x8 xs0 xs1
    = (chain ⟨x1, x2, x3, x4, x5, x6, x7, x8⟩ x0 ⟨xs0, xs1, xs2⟩ 1).h := by
  unfold kernelRun0_C.sl.v161 kernelRun0_C.sl.HS0_1
  refine (View.readCov_cons_toLoadRect _ _ _ _).trans ?_
  simp only [kernelRun0_C.sl.r_6, kernelRun0_C.sl.r_7, kernelRun0_C.sl.r, kernelRun0_C.sl.r_1, kernelRun0_C.sl.r_2, kernelRun0_C.sl.r_3, kernelRun0_C.sl.r_4, kernelRun0_C.sl.r_5, View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step0_h ⟨x1, x2, x3, x4, x5, x6, x7, x8⟩ (slab x0 0) (chain ⟨x1, x2, x3, x4, x5, x6, x7, x8⟩ x0 ⟨xs0, xs1, xs2⟩ 0).h (chain ⟨x1, x2, x3, x4, x5, x6, x7, x8⟩ x0 ⟨xs0, xs1, xs2⟩ 0).c

theorem c1_C : kernelRun0_C.sl.v178 c arg1 harg1 arg2 harg2 arg3 harg3 arg4 harg4 arg5 harg5 arg6 harg6 arg7 harg7 arg8 harg8 arg9 harg9 arg13 harg13 arg14 harg14 x0 x1 x2 x3 x4 x5 x6 x7 x8 xs0 xs1
    = (chain ⟨x1, x2, x3, x4, x5, x6, x7, x8⟩ x0 ⟨xs0, xs1, xs2⟩ 1).c := by
  unfold kernelRun0_C.sl.v178 kernelRun0_C.sl.HS1_1
  refine (View.readCov_cons_toLoadRect _ _ _ _).trans ?_
  simp only [kernelRun0_C.sl.r_6, kernelRun0_C.sl.r_7, kernelRun0_C.sl.r, kernelRun0_C.sl.r_1, kernelRun0_C.sl.r_2, kernelRun0_C.sl.r_3, kernelRun0_C.sl.r_4, kernelRun0_C.sl.r_5, View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step0_c ⟨x1, x2, x3, x4, x5, x6, x7, x8⟩ (slab x0 0) (chain ⟨x1, x2, x3, x4, x5, x6, x7, x8⟩ x0 ⟨xs0, xs1, xs2⟩ 0).h (chain ⟨x1, x2, x3, x4, x5, x6, x7, x8⟩ x0 ⟨xs0, xs1, xs2⟩ 0).c

theorem m1_C : kernelRun0_C.sl.v190 c arg1 harg1 arg2 harg2 arg3 harg3 arg4 harg4 arg5 harg5 arg6 harg6 arg7 harg7 arg8 harg8 arg9 harg9 arg13 harg13 arg14 harg14 arg15 harg15 x0 x1 x2 x3 x4 x5 x6 x7 x8 xs0 xs1 xs2
    = (chain ⟨x1, x2, x3, x4, x5, x6, x7, x8⟩ x0 ⟨xs0, xs1, xs2⟩ 1).m := by
  unfold kernelRun0_C.sl.v190 kernelRun0_C.sl.HS2_1
  refine (View.readCov_cons_toLoadRect _ _ _ _).trans ?_
  simp only [kernelRun0_C.sl.r_6, kernelRun0_C.sl.r_7, kernelRun0_C.sl.r, kernelRun0_C.sl.r_1, kernelRun0_C.sl.r_2, kernelRun0_C.sl.r_3, kernelRun0_C.sl.r_4, kernelRun0_C.sl.r_5, View.readAt_eq_ld, harg1.read_unread, harg2.read_unread, harg3.read_unread, harg4.read_unread, harg5.read_unread, harg6.read_unread, harg7.read_unread, harg8.read_unread, harg9.read_unread, harg13.read_unread, harg14.read_unread, harg15.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step0_m ⟨x1, x2, x3, x4, x5, x6, x7, x8⟩ (slab x0 0) (chain ⟨x1, x2, x3, x4, x5, x6, x7, x8⟩ x0 ⟨xs0, xs1, xs2⟩ 0).h (chain ⟨x1, x2, x3, x4, x5, x6, x7, x8⟩ x0 ⟨xs0, xs1, xs2⟩ 0).c (chain ⟨x1, x2, x3, x4, x5, x6, x7, x8⟩ x0 ⟨xs0, xs1, xs2⟩ 0).m

theorem h2_C : kernelRun0_C.sl.v238 c arg1 harg1 arg2 harg2 arg3 harg3 arg4 harg4 arg5 harg5 arg6 harg6 arg7 harg7 arg8 harg8 arg9 harg9 arg13 harg13 arg14 harg14 x0 x1 x2 x3 x4 x5 x6 x7 x8 xs0 xs1
    = (chain ⟨x1, x2, x3, x4, x5, x6, x7, x8⟩ x0 ⟨xs0, xs1, xs2⟩ 2).h := by
  unfold kernelRun0_C.sl.v238 kernelRun0_C.sl.HS0_2
  refine (View.readCov_cons_toLoadRect _ _ _ _).trans ?_
  simp only [kernelRun0_C.sl.r_10, kernelRun0_C.sl.r_11, kernelRun0_C.sl.r_1, kernelRun0_C.sl.r_2, kernelRun0_C.sl.r_3, kernelRun0_C.sl.r_4, kernelRun0_C.sl.r_5, kernelRun0_C.sl.r_8, kernelRun0_C.sl.r_9, kernelRun0_C.sl.r, (c1_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (h1_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step1_h ⟨x1, x2, x3, x4, x5, x6, x7, x8⟩ (slab x0 1) (chain ⟨x1, x2, x3, x4, x5, x6, x7, x8⟩ x0 ⟨xs0, xs1, xs2⟩ 1).h (chain ⟨x1, x2, x3, x4, x5, x6, x7, x8⟩ x0 ⟨xs0, xs1, xs2⟩ 1).c

theorem c2_C : kernelRun0_C.sl.v255 c arg1 harg1 arg2 harg2 arg3 harg3 arg4 harg4 arg5 harg5 arg6 harg6 arg7 harg7 arg8 harg8 arg9 harg9 arg13 harg13 arg14 harg14 x0 x1 x2 x3 x4 x5 x6 x7 x8 xs0 xs1
    = (chain ⟨x1, x2, x3, x4, x5, x6, x7, x8⟩ x0 ⟨xs0, xs1, xs2⟩ 2).c := by
  unfold kernelRun0_C.sl.v255 kernelRun0_C.sl.HS1_2
  refine (View.readCov_cons_toLoadRect _ _ _ _).trans ?_
  simp only [kernelRun0_C.sl.r_10, kernelRun0_C.sl.r_11, kernelRun0_C.sl.r_1, kernelRun0_C.sl.r_2, kernelRun0_C.sl.r_3, kernelRun0_C.sl.r_4, kernelRun0_C.sl.r_5, kernelRun0_C.sl.r_8, kernelRun0_C.sl.r_9, kernelRun0_C.sl.r, (c1_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (h1_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step1_c ⟨x1, x2, x3, x4, x5, x6, x7, x8⟩ (slab x0 1) (chain ⟨x1, x2, x3, x4, x5, x6, x7, x8⟩ x0 ⟨xs0, xs1, xs2⟩ 1).h (chain ⟨x1, x2, x3, x4, x5, x6, x7, x8⟩ x0 ⟨xs0, xs1, xs2⟩ 1).c

theorem m2_C : kernelRun0_C.sl.v267 c arg1 harg1 arg2 harg2 arg3 harg3 arg4 harg4 arg5 harg5 arg6 harg6 arg7 harg7 arg8 harg8 arg9 harg9 arg13 harg13 arg14 harg14 arg15 harg15 x0 x1 x2 x3 x4 x5 x6 x7 x8 xs0 xs1 xs2
    = (chain ⟨x1, x2, x3, x4, x5, x6, x7, x8⟩ x0 ⟨xs0, xs1, xs2⟩ 2).m := by
  unfold kernelRun0_C.sl.v267 kernelRun0_C.sl.HS2_2
  refine (View.readCov_cons_toLoadRect _ _ _ _).trans ?_
  simp only [kernelRun0_C.sl.r_10, kernelRun0_C.sl.r_11, kernelRun0_C.sl.r_1, kernelRun0_C.sl.r_2, kernelRun0_C.sl.r_3, kernelRun0_C.sl.r_4, kernelRun0_C.sl.r_5, kernelRun0_C.sl.r_8, kernelRun0_C.sl.r_9, kernelRun0_C.sl.r, (c1_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (m1_C c arg1 harg1 arg2 harg2 arg3 harg3 arg4 harg4 arg5 harg5 arg6 harg6 arg7 harg7 arg8 harg8 arg9 harg9 arg13 harg13 arg14 harg14 arg15 harg15 x0 x1 x2 x3 x4 x5 x6 x7 x8 xs0 xs1 xs2), (h1_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg13.read_unread, harg14.read_unread, harg15.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step1_m ⟨x1, x2, x3, x4, x5, x6, x7, x8⟩ (slab x0 1) (chain ⟨x1, x2, x3, x4, x5, x6, x7, x8⟩ x0 ⟨xs0, xs1, xs2⟩ 1).h (chain ⟨x1, x2, x3, x4, x5, x6, x7, x8⟩ x0 ⟨xs0, xs1, xs2⟩ 1).c (chain ⟨x1, x2, x3, x4, x5, x6, x7, x8⟩ x0 ⟨xs0, xs1, xs2⟩ 1).m

theorem h3_C : kernelRun0_C.sl.v315 c arg1 harg1 arg2 harg2 arg3 harg3 arg4 harg4 arg5 harg5 arg6 harg6 arg7 harg7 arg8 harg8 arg9 harg9 arg13 harg13 arg14 harg14 x0 x1 x2 x3 x4 x5 x6 x7 x8 xs0 xs1
    = (chain ⟨x1, x2, x3, x4, x5, x6, x7, x8⟩ x0 ⟨xs0, xs1, xs2⟩ 3).h := by
  unfold kernelRun0_C.sl.v315 kernelRun0_C.sl.HS0_3
  refine (View.readCov_cons_toLoadRect _ _ _ _).trans ?_
  simp only [kernelRun0_C.sl.r_15, kernelRun0_C.sl.r_16, kernelRun0_C.sl.r_17, kernelRun0_C.sl.r_18, kernelRun0_C.sl.r_1, kernelRun0_C.sl.r_3, kernelRun0_C.sl.r_4, kernelRun0_C.sl.r_5, kernelRun0_C.sl.r_12, kernelRun0_C.sl.r_13, kernelRun0_C.sl.r_14, kernelRun0_C.sl.r_2, kernelRun0_C.sl.r, (c2_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (h2_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step2_h ⟨x1, x2, x3, x4, x5, x6, x7, x8⟩ (slab x0 2) (chain ⟨x1, x2, x3, x4, x5, x6, x7, x8⟩ x0 ⟨xs0, xs1, xs2⟩ 2).h (chain ⟨x1, x2, x3, x4, x5, x6, x7, x8⟩ x0 ⟨xs0, xs1, xs2⟩ 2).c

theorem c3_C : kernelRun0_C.sl.v332 c arg1 harg1 arg2 harg2 arg3 harg3 arg4 harg4 arg5 harg5 arg6 harg6 arg7 harg7 arg8 harg8 arg9 harg9 arg13 harg13 arg14 harg14 x0 x1 x2 x3 x4 x5 x6 x7 x8 xs0 xs1
    = (chain ⟨x1, x2, x3, x4, x5, x6, x7, x8⟩ x0 ⟨xs0, xs1, xs2⟩ 3).c := by
  unfold kernelRun0_C.sl.v332 kernelRun0_C.sl.HS1_3
  refine (View.readCov_cons_toLoadRect _ _ _ _).trans ?_
  simp only [kernelRun0_C.sl.r_15, kernelRun0_C.sl.r_16, kernelRun0_C.sl.r_17, kernelRun0_C.sl.r_1, kernelRun0_C.sl.r_3, kernelRun0_C.sl.r_4, kernelRun0_C.sl.r_5, kernelRun0_C.sl.r_12, kernelRun0_C.sl.r_13, kernelRun0_C.sl.r_14, kernelRun0_C.sl.r_2, kernelRun0_C.sl.r, (c2_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (h2_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step2_c ⟨x1, x2, x3, x4, x5, x6, x7, x8⟩ (slab x0 2) (chain ⟨x1, x2, x3, x4, x5, x6, x7, x8⟩ x0 ⟨xs0, xs1, xs2⟩ 2).h (chain ⟨x1, x2, x3, x4, x5, x6, x7, x8⟩ x0 ⟨xs0, xs1, xs2⟩ 2).c

theorem m3_C : kernelRun0_C.sl.v344 c arg1 harg1 arg2 harg2 arg3 harg3 arg4 harg4 arg5 harg5 arg6 harg6 arg7 harg7 arg8 harg8 arg9 harg9 arg13 harg13 arg14 harg14 arg15 harg15 x0 x1 x2 x3 x4 x5 x6 x7 x8 xs0 xs1 xs2
    = (chain ⟨x1, x2, x3, x4, x5, x6, x7, x8⟩ x0 ⟨xs0, xs1, xs2⟩ 3).m := by
  unfold kernelRun0_C.sl.v344 kernelRun0_C.sl.HS2_3
  refine (View.readCov_cons_toLoadRect _ _ _ _).trans ?_
  simp only [kernelRun0_C.sl.r_15, kernelRun0_C.sl.r_16, kernelRun0_C.sl.r_17, kernelRun0_C.sl.r_18, kernelRun0_C.sl.r_1, kernelRun0_C.sl.r_3, kernelRun0_C.sl.r_4, kernelRun0_C.sl.r_5, kernelRun0_C.sl.r_12, kernelRun0_C.sl.r_13, kernelRun0_C.sl.r_14, kernelRun0_C.sl.r_2, kernelRun0_C.sl.r, (c2_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (m2_C c arg1 harg1 arg2 harg2 arg3 harg3 arg4 harg4 arg5 harg5 arg6 harg6 arg7 harg7 arg8 harg8 arg9 harg9 arg13 harg13 arg14 harg14 arg15 harg15 x0 x1 x2 x3 x4 x5 x6 x7 x8 xs0 xs1 xs2), (h2_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg13.read_unread, harg14.read_unread, harg15.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step2_m ⟨x1, x2, x3, x4, x5, x6, x7, x8⟩ (slab x0 2) (chain ⟨x1, x2, x3, x4, x5, x6, x7, x8⟩ x0 ⟨xs0, xs1, xs2⟩ 2).h (chain ⟨x1, x2, x3, x4, x5, x6, x7, x8⟩ x0 ⟨xs0, xs1, xs2⟩ 2).c (chain ⟨x1, x2, x3, x4, x5, x6, x7, x8⟩ x0 ⟨xs0, xs1, xs2⟩ 2).m

theorem h4_C : kernelRun0_C.sl.v392 c arg1 harg1 arg2 harg2 arg3 harg3 arg4 harg4 arg5 harg5 arg6 harg6 arg7 harg7 arg8 harg8 arg9 harg9 arg13 harg13 arg14 harg14 x0 x1 x2 x3 x4 x5 x6 x7 x8 xs0 xs1
    = (chain ⟨x1, x2, x3, x4, x5, x6, x7, x8⟩ x0 ⟨xs0, xs1, xs2⟩ 4).h := by
  unfold kernelRun0_C.sl.v392 kernelRun0_C.sl.HS0_4
  refine (View.readCov_cons_toLoadRect _ _ _ _).trans ?_
  simp only [kernelRun0_C.sl.r_21, kernelRun0_C.sl.r_1, kernelRun0_C.sl.r_3, kernelRun0_C.sl.r_5, kernelRun0_C.sl.r_19, kernelRun0_C.sl.r, kernelRun0_C.sl.r_2, kernelRun0_C.sl.r_4, (h3_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (c3_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step3_h ⟨x1, x2, x3, x4, x5, x6, x7, x8⟩ (slab x0 3) (chain ⟨x1, x2, x3, x4, x5, x6, x7, x8⟩ x0 ⟨xs0, xs1, xs2⟩ 3).h (chain ⟨x1, x2, x3, x4, x5, x6, x7, x8⟩ x0 ⟨xs0, xs1, xs2⟩ 3).c

theorem c4_C : kernelRun0_C.sl.v409 c arg1 harg1 arg2 harg2 arg3 harg3 arg4 harg4 arg5 harg5 arg6 harg6 arg7 harg7 arg8 harg8 arg9 harg9 arg13 harg13 arg14 harg14 x0 x1 x2 x3 x4 x5 x6 x7 x8 xs0 xs1
    = (chain ⟨x1, x2, x3, x4, x5, x6, x7, x8⟩ x0 ⟨xs0, xs1, xs2⟩ 4).c := by
  unfold kernelRun0_C.sl.v409 kernelRun0_C.sl.HS1_4
  refine (View.readCov_cons_toLoadRect _ _ _ _).trans ?_
  simp only [kernelRun0_C.sl.r_20, kernelRun0_C.sl.r_1, kernelRun0_C.sl.r_3, kernelRun0_C.sl.r_5, kernelRun0_C.sl.r_19, kernelRun0_C.sl.r, kernelRun0_C.sl.r_2, kernelRun0_C.sl.r_4, (h3_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (c3_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step3_c ⟨x1, x2, x3, x4, x5, x6, x7, x8⟩ (slab x0 3) (chain ⟨x1, x2, x3, x4, x5, x6, x7, x8⟩ x0 ⟨xs0, xs1, xs2⟩ 3).h (chain ⟨x1, x2, x3, x4, x5, x6, x7, x8⟩ x0 ⟨xs0, xs1, xs2⟩ 3).c

theorem m4_C : kernelRun0_C.sl.v421 c arg1 harg1 arg2 harg2 arg3 harg3 arg4 harg4 arg5 harg5 arg6 harg6 arg7 harg7 arg8 harg8 arg9 harg9 arg13 harg13 arg14 harg14 arg15 harg15 x0 x1 x2 x3 x4 x5 x6 x7 x8 xs0 xs1 xs2
    = (chain ⟨x1, x2, x3, x4, x5, x6, x7, x8⟩ x0 ⟨xs0, xs1, xs2⟩ 4).m := by
  unfold kernelRun0_C.sl.v421 kernelRun0_C.sl.HS2_4
  refine (View.readCov_cons_toLoadRect _ _ _ _).trans ?_
  simp only [kernelRun0_C.sl.r_21, kernelRun0_C.sl.r_1, kernelRun0_C.sl.r_3, kernelRun0_C.sl.r_5, kernelRun0_C.sl.r_19, kernelRun0_C.sl.r, kernelRun0_C.sl.r_2, kernelRun0_C.sl.r_4, (m3_C c arg1 harg1 arg2 harg2 arg3 harg3 arg4 harg4 arg5 harg5 arg6 harg6 arg7 harg7 arg8 harg8 arg9 harg9 arg13 harg13 arg14 harg14 arg15 harg15 x0 x1 x2 x3 x4 x5 x6 x7 x8 xs0 xs1 xs2), (h3_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (c3_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg13.read_unread, harg14.read_unread, harg15.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step3_m ⟨x1, x2, x3, x4, x5, x6, x7, x8⟩ (slab x0 3) (chain ⟨x1, x2, x3, x4, x5, x6, x7, x8⟩ x0 ⟨xs0, xs1, xs2⟩ 3).h (chain ⟨x1, x2, x3, x4, x5, x6, x7, x8⟩ x0 ⟨xs0, xs1, xs2⟩ 3).c (chain ⟨x1, x2, x3, x4, x5, x6, x7, x8⟩ x0 ⟨xs0, xs1, xs2⟩ 3).m

theorem h5_C : kernelRun0_C.sl.v469 c arg1 harg1 arg2 harg2 arg3 harg3 arg4 harg4 arg5 harg5 arg6 harg6 arg7 harg7 arg8 harg8 arg9 harg9 arg13 harg13 arg14 harg14 x0 x1 x2 x3 x4 x5 x6 x7 x8 xs0 xs1
    = (chain ⟨x1, x2, x3, x4, x5, x6, x7, x8⟩ x0 ⟨xs0, xs1, xs2⟩ 5).h := by
  unfold kernelRun0_C.sl.v469 kernelRun0_C.sl.HS0_5
  refine (View.readCov_cons_toLoadRect _ _ _ _).trans ?_
  simp only [kernelRun0_C.sl.r_22, kernelRun0_C.sl.r, kernelRun0_C.sl.r_1, kernelRun0_C.sl.r_2, kernelRun0_C.sl.r_3, kernelRun0_C.sl.r_4, kernelRun0_C.sl.r_5, (h4_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (c4_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step4_h ⟨x1, x2, x3, x4, x5, x6, x7, x8⟩ (slab x0 4) (chain ⟨x1, x2, x3, x4, x5, x6, x7, x8⟩ x0 ⟨xs0, xs1, xs2⟩ 4).h (chain ⟨x1, x2, x3, x4, x5, x6, x7, x8⟩ x0 ⟨xs0, xs1, xs2⟩ 4).c

theorem c5_C : kernelRun0_C.sl.v486 c arg1 harg1 arg2 harg2 arg3 harg3 arg4 harg4 arg5 harg5 arg6 harg6 arg7 harg7 arg8 harg8 arg9 harg9 arg13 harg13 arg14 harg14 x0 x1 x2 x3 x4 x5 x6 x7 x8 xs0 xs1
    = (chain ⟨x1, x2, x3, x4, x5, x6, x7, x8⟩ x0 ⟨xs0, xs1, xs2⟩ 5).c := by
  unfold kernelRun0_C.sl.v486 kernelRun0_C.sl.HS1_5
  refine (View.readCov_cons_toLoadRect _ _ _ _).trans ?_
  simp only [kernelRun0_C.sl.r_22, kernelRun0_C.sl.r, kernelRun0_C.sl.r_1, kernelRun0_C.sl.r_2, kernelRun0_C.sl.r_3, kernelRun0_C.sl.r_4, kernelRun0_C.sl.r_5, (h4_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (c4_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step4_c ⟨x1, x2, x3, x4, x5, x6, x7, x8⟩ (slab x0 4) (chain ⟨x1, x2, x3, x4, x5, x6, x7, x8⟩ x0 ⟨xs0, xs1, xs2⟩ 4).h (chain ⟨x1, x2, x3, x4, x5, x6, x7, x8⟩ x0 ⟨xs0, xs1, xs2⟩ 4).c

theorem m5_C : kernelRun0_C.sl.v498 c arg1 harg1 arg2 harg2 arg3 harg3 arg4 harg4 arg5 harg5 arg6 harg6 arg7 harg7 arg8 harg8 arg9 harg9 arg13 harg13 arg14 harg14 arg15 harg15 x0 x1 x2 x3 x4 x5 x6 x7 x8 xs0 xs1 xs2
    = (chain ⟨x1, x2, x3, x4, x5, x6, x7, x8⟩ x0 ⟨xs0, xs1, xs2⟩ 5).m := by
  unfold kernelRun0_C.sl.v498 kernelRun0_C.sl.HS2_5
  refine (View.readCov_cons_toLoadRect _ _ _ _).trans ?_
  simp only [kernelRun0_C.sl.r_23, kernelRun0_C.sl.r_22, kernelRun0_C.sl.r, kernelRun0_C.sl.r_1, kernelRun0_C.sl.r_2, kernelRun0_C.sl.r_3, kernelRun0_C.sl.r_4, kernelRun0_C.sl.r_5, (m4_C c arg1 harg1 arg2 harg2 arg3 harg3 arg4 harg4 arg5 harg5 arg6 harg6 arg7 harg7 arg8 harg8 arg9 harg9 arg13 harg13 arg14 harg14 arg15 harg15 x0 x1 x2 x3 x4 x5 x6 x7 x8 xs0 xs1 xs2), (h4_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (c4_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg13.read_unread, harg14.read_unread, harg15.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step4_m ⟨x1, x2, x3, x4, x5, x6, x7, x8⟩ (slab x0 4) (chain ⟨x1, x2, x3, x4, x5, x6, x7, x8⟩ x0 ⟨xs0, xs1, xs2⟩ 4).h (chain ⟨x1, x2, x3, x4, x5, x6, x7, x8⟩ x0 ⟨xs0, xs1, xs2⟩ 4).c (chain ⟨x1, x2, x3, x4, x5, x6, x7, x8⟩ x0 ⟨xs0, xs1, xs2⟩ 4).m

theorem h6_C : kernelRun0_C.sl.v546 c arg1 harg1 arg2 harg2 arg3 harg3 arg4 harg4 arg5 harg5 arg6 harg6 arg7 harg7 arg8 harg8 arg9 harg9 arg13 harg13 arg14 harg14 x0 x1 x2 x3 x4 x5 x6 x7 x8 xs0 xs1
    = (chain ⟨x1, x2, x3, x4, x5, x6, x7, x8⟩ x0 ⟨xs0, xs1, xs2⟩ 6).h := by
  unfold kernelRun0_C.sl.v546 kernelRun0_C.sl.HS0_6
  refine (View.readCov_cons_toLoadRect _ _ _ _).trans ?_
  simp only [kernelRun0_C.sl.r_24, kernelRun0_C.sl.r, kernelRun0_C.sl.r_1, kernelRun0_C.sl.r_2, kernelRun0_C.sl.r_3, kernelRun0_C.sl.r_4, kernelRun0_C.sl.r_5, (h5_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (c5_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step5_h ⟨x1, x2, x3, x4, x5, x6, x7, x8⟩ (slab x0 5) (chain ⟨x1, x2, x3, x4, x5, x6, x7, x8⟩ x0 ⟨xs0, xs1, xs2⟩ 5).h (chain ⟨x1, x2, x3, x4, x5, x6, x7, x8⟩ x0 ⟨xs0, xs1, xs2⟩ 5).c

theorem c6_C : kernelRun0_C.sl.v563 c arg1 harg1 arg2 harg2 arg3 harg3 arg4 harg4 arg5 harg5 arg6 harg6 arg7 harg7 arg8 harg8 arg9 harg9 arg13 harg13 arg14 harg14 x0 x1 x2 x3 x4 x5 x6 x7 x8 xs0 xs1
    = (chain ⟨x1, x2, x3, x4, x5, x6, x7, x8⟩ x0 ⟨xs0, xs1, xs2⟩ 6).c := by
  unfold kernelRun0_C.sl.v563 kernelRun0_C.sl.HS1_6
  refine (View.readCov_cons_toLoadRect _ _ _ _).trans ?_
  simp only [kernelRun0_C.sl.r_24, kernelRun0_C.sl.r, kernelRun0_C.sl.r_1, kernelRun0_C.sl.r_2, kernelRun0_C.sl.r_3, kernelRun0_C.sl.r_4, kernelRun0_C.sl.r_5, (h5_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (c5_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step5_c ⟨x1, x2, x3, x4, x5, x6, x7, x8⟩ (slab x0 5) (chain ⟨x1, x2, x3, x4, x5, x6, x7, x8⟩ x0 ⟨xs0, xs1, xs2⟩ 5).h (chain ⟨x1, x2, x3, x4, x5, x6, x7, x8⟩ x0 ⟨xs0, xs1, xs2⟩ 5).c

theorem m6_C : kernelRun0_C.sl.v575 c arg1 harg1 arg2 harg2 arg3 harg3 arg4 harg4 arg5 harg5 arg6 harg6 arg7 harg7 arg8 harg8 arg9 harg9 arg13 harg13 arg14 harg14 arg15 harg15 x0 x1 x2 x3 x4 x5 x6 x7 x8 xs0 xs1 xs2
    = (chain ⟨x1, x2, x3, x4, x5, x6, x7, x8⟩ x0 ⟨xs0, xs1, xs2⟩ 6).m := by
  unfold kernelRun0_C.sl.v575 kernelRun0_C.sl.HS2_6
  refine (View.readCov_cons_toLoadRect _ _ _ _).trans ?_
  simp only [kernelRun0_C.sl.r_24, kernelRun0_C.sl.r, kernelRun0_C.sl.r_1, kernelRun0_C.sl.r_2, kernelRun0_C.sl.r_3, kernelRun0_C.sl.r_4, kernelRun0_C.sl.r_5, (h5_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (c5_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (m5_C c arg1 harg1 arg2 harg2 arg3 harg3 arg4 harg4 arg5 harg5 arg6 harg6 arg7 harg7 arg8 harg8 arg9 harg9 arg13 harg13 arg14 harg14 arg15 harg15 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg13.read_unread, harg14.read_unread, harg15.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step5_m ⟨x1, x2, x3, x4, x5, x6, x7, x8⟩ (slab x0 5) (chain ⟨x1, x2, x3, x4, x5, x6, x7, x8⟩ x0 ⟨xs0, xs1, xs2⟩ 5).h (chain ⟨x1, x2, x3, x4, x5, x6, x7, x8⟩ x0 ⟨xs0, xs1, xs2⟩ 5).c (chain ⟨x1, x2, x3, x4, x5, x6, x7, x8⟩ x0 ⟨xs0, xs1, xs2⟩ 5).m

theorem h7_C : kernelRun0_C.sl.v623 c arg1 harg1 arg2 harg2 arg3 harg3 arg4 harg4 arg5 harg5 arg6 harg6 arg7 harg7 arg8 harg8 arg9 harg9 arg13 harg13 arg14 harg14 x0 x1 x2 x3 x4 x5 x6 x7 x8 xs0 xs1
    = (chain ⟨x1, x2, x3, x4, x5, x6, x7, x8⟩ x0 ⟨xs0, xs1, xs2⟩ 7).h := by
  unfold kernelRun0_C.sl.v623 kernelRun0_C.sl.HS0_7
  refine (View.readCov_cons_toLoadRect _ _ _ _).trans ?_
  simp only [kernelRun0_C.sl.r_25, kernelRun0_C.sl.r_26, kernelRun0_C.sl.r, kernelRun0_C.sl.r_1, kernelRun0_C.sl.r_2, kernelRun0_C.sl.r_3, kernelRun0_C.sl.r_4, kernelRun0_C.sl.r_5, (c6_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (h6_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step6_h ⟨x1, x2, x3, x4, x5, x6, x7, x8⟩ (slab x0 6) (chain ⟨x1, x2, x3, x4, x5, x6, x7, x8⟩ x0 ⟨xs0, xs1, xs2⟩ 6).h (chain ⟨x1, x2, x3, x4, x5, x6, x7, x8⟩ x0 ⟨xs0, xs1, xs2⟩ 6).c

theorem c7_C : kernelRun0_C.sl.v640 c arg1 harg1 arg2 harg2 arg3 harg3 arg4 harg4 arg5 harg5 arg6 harg6 arg7 harg7 arg8 harg8 arg9 harg9 arg13 harg13 arg14 harg14 x0 x1 x2 x3 x4 x5 x6 x7 x8 xs0 xs1
    = (chain ⟨x1, x2, x3, x4, x5, x6, x7, x8⟩ x0 ⟨xs0, xs1, xs2⟩ 7).c := by
  unfold kernelRun0_C.sl.v640 kernelRun0_C.sl.HS1_7
  refine (View.readCov_cons_toLoadRect _ _ _ _).trans ?_
  simp only [kernelRun0_C.sl.r_25, kernelRun0_C.sl.r_26, kernelRun0_C.sl.r, kernelRun0_C.sl.r_1, kernelRun0_C.sl.r_2, kernelRun0_C.sl.r_3, kernelRun0_C.sl.r_4, kernelRun0_C.sl.r_5, (c6_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (h6_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step6_c ⟨x1, x2, x3, x4, x5, x6, x7, x8⟩ (slab x0 6) (chain ⟨x1, x2, x3, x4, x5, x6, x7, x8⟩ x0 ⟨xs0, xs1, xs2⟩ 6).h (chain ⟨x1, x2, x3, x4, x5, x6, x7, x8⟩ x0 ⟨xs0, xs1, xs2⟩ 6).c

theorem m7_C : kernelRun0_C.sl.v652 c arg1 harg1 arg2 harg2 arg3 harg3 arg4 harg4 arg5 harg5 arg6 harg6 arg7 harg7 arg8 harg8 arg9 harg9 arg13 harg13 arg14 harg14 arg15 harg15 x0 x1 x2 x3 x4 x5 x6 x7 x8 xs0 xs1 xs2
    = (chain ⟨x1, x2, x3, x4, x5, x6, x7, x8⟩ x0 ⟨xs0, xs1, xs2⟩ 7).m := by
  unfold kernelRun0_C.sl.v652 kernelRun0_C.sl.HS2_7
  refine (View.readCov_cons_toLoadRect _ _ _ _).trans ?_
  simp only [kernelRun0_C.sl.r_25, kernelRun0_C.sl.r_26, kernelRun0_C.sl.r, kernelRun0_C.sl.r_1, kernelRun0_C.sl.r_2, kernelRun0_C.sl.r_3, kernelRun0_C.sl.r_4, kernelRun0_C.sl.r_5, (c6_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (m6_C c arg1 harg1 arg2 harg2 arg3 harg3 arg4 harg4 arg5 harg5 arg6 harg6 arg7 harg7 arg8 harg8 arg9 harg9 arg13 harg13 arg14 harg14 arg15 harg15 x0 x1 x2 x3 x4 x5 x6 x7 x8 xs0 xs1 xs2), (h6_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg13.read_unread, harg14.read_unread, harg15.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step6_m ⟨x1, x2, x3, x4, x5, x6, x7, x8⟩ (slab x0 6) (chain ⟨x1, x2, x3, x4, x5, x6, x7, x8⟩ x0 ⟨xs0, xs1, xs2⟩ 6).h (chain ⟨x1, x2, x3, x4, x5, x6, x7, x8⟩ x0 ⟨xs0, xs1, xs2⟩ 6).c (chain ⟨x1, x2, x3, x4, x5, x6, x7, x8⟩ x0 ⟨xs0, xs1, xs2⟩ 6).m

theorem h8_C : kernelRun0_C.sl.v700 c arg1 harg1 arg2 harg2 arg3 harg3 arg4 harg4 arg5 harg5 arg6 harg6 arg7 harg7 arg8 harg8 arg9 harg9 arg13 harg13 arg14 harg14 x0 x1 x2 x3 x4 x5 x6 x7 x8 xs0 xs1
    = (chain ⟨x1, x2, x3, x4, x5, x6, x7, x8⟩ x0 ⟨xs0, xs1, xs2⟩ 8).h := by
  unfold kernelRun0_C.sl.v700 kernelRun0_C.sl.HS0_8
  refine (View.readCov_cons_toLoadRect _ _ _ _).trans ?_
  simp only [kernelRun0_C.sl.r_29, kernelRun0_C.sl.r_30, kernelRun0_C.sl.r_1, kernelRun0_C.sl.r_2, kernelRun0_C.sl.r_3, kernelRun0_C.sl.r_4, kernelRun0_C.sl.r_5, kernelRun0_C.sl.r_27, kernelRun0_C.sl.r_28, kernelRun0_C.sl.r, (c7_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (h7_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step7_h ⟨x1, x2, x3, x4, x5, x6, x7, x8⟩ (slab x0 7) (chain ⟨x1, x2, x3, x4, x5, x6, x7, x8⟩ x0 ⟨xs0, xs1, xs2⟩ 7).h (chain ⟨x1, x2, x3, x4, x5, x6, x7, x8⟩ x0 ⟨xs0, xs1, xs2⟩ 7).c

theorem c8_C : kernelRun0_C.sl.v717 c arg1 harg1 arg2 harg2 arg3 harg3 arg4 harg4 arg5 harg5 arg6 harg6 arg7 harg7 arg8 harg8 arg9 harg9 arg13 harg13 arg14 harg14 x0 x1 x2 x3 x4 x5 x6 x7 x8 xs0 xs1
    = (chain ⟨x1, x2, x3, x4, x5, x6, x7, x8⟩ x0 ⟨xs0, xs1, xs2⟩ 8).c := by
  unfold kernelRun0_C.sl.v717 kernelRun0_C.sl.HS1_8
  refine (View.readCov_cons_toLoadRect _ _ _ _).trans ?_
  simp only [kernelRun0_C.sl.r_29, kernelRun0_C.sl.r_30, kernelRun0_C.sl.r_1, kernelRun0_C.sl.r_2, kernelRun0_C.sl.r_3, kernelRun0_C.sl.r_4, kernelRun0_C.sl.r_5, kernelRun0_C.sl.r_27, kernelRun0_C.sl.r_28, kernelRun0_C.sl.r, (c7_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (h7_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step7_c ⟨x1, x2, x3, x4, x5, x6, x7, x8⟩ (slab x0 7) (chain ⟨x1, x2, x3, x4, x5, x6, x7, x8⟩ x0 ⟨xs0, xs1, xs2⟩ 7).h (chain ⟨x1, x2, x3, x4, x5, x6, x7, x8⟩ x0 ⟨xs0, xs1, xs2⟩ 7).c

theorem m8_C : kernelRun0_C.sl.v729 c arg1 harg1 arg2 harg2 arg3 harg3 arg4 harg4 arg5 harg5 arg6 harg6 arg7 harg7 arg8 harg8 arg9 harg9 arg13 harg13 arg14 harg14 arg15 harg15 x0 x1 x2 x3 x4 x5 x6 x7 x8 xs0 xs1 xs2
    = (chain ⟨x1, x2, x3, x4, x5, x6, x7, x8⟩ x0 ⟨xs0, xs1, xs2⟩ 8).m := by
  unfold kernelRun0_C.sl.v729 kernelRun0_C.sl.HS2_8
  refine (View.readCov_cons_toLoadRect _ _ _ _).trans ?_
  simp only [kernelRun0_C.sl.r_29, kernelRun0_C.sl.r_30, kernelRun0_C.sl.r_1, kernelRun0_C.sl.r_2, kernelRun0_C.sl.r_3, kernelRun0_C.sl.r_4, kernelRun0_C.sl.r_5, kernelRun0_C.sl.r_27, kernelRun0_C.sl.r_28, kernelRun0_C.sl.r, (c7_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (m7_C c arg1 harg1 arg2 harg2 arg3 harg3 arg4 harg4 arg5 harg5 arg6 harg6 arg7 harg7 arg8 harg8 arg9 harg9 arg13 harg13 arg14 harg14 arg15 harg15 x0 x1 x2 x3 x4 x5 x6 x7 x8 xs0 xs1 xs2), (h7_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg13.read_unread, harg14.read_unread, harg15.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step7_m ⟨x1, x2, x3, x4, x5, x6, x7, x8⟩ (slab x0 7) (chain ⟨x1, x2, x3, x4, x5, x6, x7, x8⟩ x0 ⟨xs0, xs1, xs2⟩ 7).h (chain ⟨x1, x2, x3, x4, x5, x6, x7, x8⟩ x0 ⟨xs0, xs1, xs2⟩ 7).c (chain ⟨x1, x2, x3, x4, x5, x6, x7, x8⟩ x0 ⟨xs0, xs1, xs2⟩ 7).m

theorem h9_C : kernelRun0_C.sl.v777 c arg1 harg1 arg2 harg2 arg3 harg3 arg4 harg4 arg5 harg5 arg6 harg6 arg7 harg7 arg8 harg8 arg9 harg9 arg13 harg13 arg14 harg14 x0 x1 x2 x3 x4 x5 x6 x7 x8 xs0 xs1
    = (chain ⟨x1, x2, x3, x4, x5, x6, x7, x8⟩ x0 ⟨xs0, xs1, xs2⟩ 9).h := by
  unfold kernelRun0_C.sl.v777 kernelRun0_C.sl.HS0_9
  refine (View.readCov_cons_toLoadRect _ _ _ _).trans ?_
  simp only [kernelRun0_C.sl.r_34, kernelRun0_C.sl.r_35, kernelRun0_C.sl.r_36, kernelRun0_C.sl.r_37, kernelRun0_C.sl.r_1, kernelRun0_C.sl.r_3, kernelRun0_C.sl.r_4, kernelRun0_C.sl.r_5, kernelRun0_C.sl.r_31, kernelRun0_C.sl.r_32, kernelRun0_C.sl.r_33, kernelRun0_C.sl.r_2, kernelRun0_C.sl.r, (c8_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (h8_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step8_h ⟨x1, x2, x3, x4, x5, x6, x7, x8⟩ (slab x0 8) (chain ⟨x1, x2, x3, x4, x5, x6, x7, x8⟩ x0 ⟨xs0, xs1, xs2⟩ 8).h (chain ⟨x1, x2, x3, x4, x5, x6, x7, x8⟩ x0 ⟨xs0, xs1, xs2⟩ 8).c

theorem c9_C : kernelRun0_C.sl.v794 c arg1 harg1 arg2 harg2 arg3 harg3 arg4 harg4 arg5 harg5 arg6 harg6 arg7 harg7 arg8 harg8 arg9 harg9 arg13 harg13 arg14 harg14 x0 x1 x2 x3 x4 x5 x6 x7 x8 xs0 xs1
    = (chain ⟨x1, x2, x3, x4, x5, x6, x7, x8⟩ x0 ⟨xs0, xs1, xs2⟩ 9).c := by
  unfold kernelRun0_C.sl.v794 kernelRun0_C.sl.HS1_9
  refine (View.readCov_cons_toLoadRect _ _ _ _).trans ?_
  simp only [kernelRun0_C.sl.r_34, kernelRun0_C.sl.r_35, kernelRun0_C.sl.r_36, kernelRun0_C.sl.r_1, kernelRun0_C.sl.r_3, kernelRun0_C.sl.r_4, kernelRun0_C.sl.r_5, kernelRun0_C.sl.r_31, kernelRun0_C.sl.r_32, kernelRun0_C.sl.r_33, kernelRun0_C.sl.r_2, kernelRun0_C.sl.r, (c8_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (h8_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg13.read_unread, harg14.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step8_c ⟨x1, x2, x3, x4, x5, x6, x7, x8⟩ (slab x0 8) (chain ⟨x1, x2, x3, x4, x5, x6, x7, x8⟩ x0 ⟨xs0, xs1, xs2⟩ 8).h (chain ⟨x1, x2, x3, x4, x5, x6, x7, x8⟩ x0 ⟨xs0, xs1, xs2⟩ 8).c

theorem m9_C : kernelRun0_C.sl.v806 c arg1 harg1 arg2 harg2 arg3 harg3 arg4 harg4 arg5 harg5 arg6 harg6 arg7 harg7 arg8 harg8 arg9 harg9 arg13 harg13 arg14 harg14 arg15 harg15 x0 x1 x2 x3 x4 x5 x6 x7 x8 xs0 xs1 xs2
    = (chain ⟨x1, x2, x3, x4, x5, x6, x7, x8⟩ x0 ⟨xs0, xs1, xs2⟩ 9).m := by
  unfold kernelRun0_C.sl.v806 kernelRun0_C.sl.HS2_9
  refine (View.readCov_cons_toLoadRect _ _ _ _).trans ?_
  simp only [kernelRun0_C.sl.r_34, kernelRun0_C.sl.r_35, kernelRun0_C.sl.r_36, kernelRun0_C.sl.r_37, kernelRun0_C.sl.r_1, kernelRun0_C.sl.r_3, kernelRun0_C.sl.r_4, kernelRun0_C.sl.r_5, kernelRun0_C.sl.r_31, kernelRun0_C.sl.r_32, kernelRun0_C.sl.r_33, kernelRun0_C.sl.r_2, kernelRun0_C.sl.r, (c8_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (m8_C c arg1 harg1 arg2 harg2 arg3 harg3 arg4 harg4 arg5 harg5 arg6 harg6 arg7 harg7 arg8 harg8 arg9 harg9 arg13 harg13 arg14 harg14 arg15 harg15 x0 x1 x2 x3 x4 x5 x6 x7 x8 xs0 xs1 xs2), (h8_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg13.read_unread, harg14.read_unread, harg15.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step8_m ⟨x1, x2, x3, x4, x5, x6, x7, x8⟩ (slab x0 8) (chain ⟨x1, x2, x3, x4, x5, x6, x7, x8⟩ x0 ⟨xs0, xs1, xs2⟩ 8).h (chain ⟨x1, x2, x3, x4, x5, x6, x7, x8⟩ x0 ⟨xs0, xs1, xs2⟩ 8).c (chain ⟨x1, x2, x3, x4, x5, x6, x7, x8⟩ x0 ⟨xs0, xs1, xs2⟩ 8).m

theorem out_h_C : sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 xs2
    = (chain ⟨x1, x2, x3, x4, x5, x6, x7, x8⟩ x0 ⟨xs0, xs1, xs2⟩ 10).h := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 xs2)]
  unfold kernelRun0_C
  dsimp only
  rw [View.canon_cons_unit_zero (S := S256x256) off_zero]
  simp only [kernelRun0_C.sl.r_40, kernelRun0_C.sl.r_1, kernelRun0_C.sl.r_3, kernelRun0_C.sl.r_5, kernelRun0_C.sl.r_38, kernelRun0_C.sl.r, kernelRun0_C.sl.r_2, kernelRun0_C.sl.r_4, (h9_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (c9_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step9_h ⟨x1, x2, x3, x4, x5, x6, x7, x8⟩ (slab x0 9) (chain ⟨x1, x2, x3, x4, x5, x6, x7, x8⟩ x0 ⟨xs0, xs1, xs2⟩ 9).h (chain ⟨x1, x2, x3, x4, x5, x6, x7, x8⟩ x0 ⟨xs0, xs1, xs2⟩ 9).c

theorem out_c_C : sout0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 xs2
    = (chain ⟨x1, x2, x3, x4, x5, x6, x7, x8⟩ x0 ⟨xs0, xs1, xs2⟩ 10).c := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 xs2)]
  unfold kernelRun0_C
  dsimp only
  rw [View.canon_cons_unit_zero (S := S256x256) off_zero]
  simp only [kernelRun0_C.sl.r_39, kernelRun0_C.sl.r_1, kernelRun0_C.sl.r_3, kernelRun0_C.sl.r_5, kernelRun0_C.sl.r_38, kernelRun0_C.sl.r, kernelRun0_C.sl.r_2, kernelRun0_C.sl.r_4, (h9_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (c9_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step9_c ⟨x1, x2, x3, x4, x5, x6, x7, x8⟩ (slab x0 9) (chain ⟨x1, x2, x3, x4, x5, x6, x7, x8⟩ x0 ⟨xs0, xs1, xs2⟩ 9).h (chain ⟨x1, x2, x3, x4, x5, x6, x7, x8⟩ x0 ⟨xs0, xs1, xs2⟩ 9).c

theorem out_m_C : sout0_C_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 xs2
    = (chain ⟨x1, x2, x3, x4, x5, x6, x7, x8⟩ x0 ⟨xs0, xs1, xs2⟩ 10).m := by
  unfold sout0_C_2
  rw [View.read_writes_eq_canon _ _ _ (scover0_C_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 xs2)]
  unfold kernelRun0_C
  dsimp only
  unfold kernelRun0_C.sl.HS2_10
  rw [View.canon_cons_unit_zero (S := S256x256) off_zero]
  simp only [kernelRun0_C.sl.r_40, kernelRun0_C.sl.r_1, kernelRun0_C.sl.r_3, kernelRun0_C.sl.r_5, kernelRun0_C.sl.r_38, kernelRun0_C.sl.r, kernelRun0_C.sl.r_2, kernelRun0_C.sl.r_4, (m9_C c arg1 harg1 arg2 harg2 arg3 harg3 arg4 harg4 arg5 harg5 arg6 harg6 arg7 harg7 arg8 harg8 arg9 harg9 arg13 harg13 arg14 harg14 arg15 harg15 x0 x1 x2 x3 x4 x5 x6 x7 x8 xs0 xs1 xs2), (h9_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (c9_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step9_m ⟨x1, x2, x3, x4, x5, x6, x7, x8⟩ (slab x0 9) (chain ⟨x1, x2, x3, x4, x5, x6, x7, x8⟩ x0 ⟨xs0, xs1, xs2⟩ 9).h (chain ⟨x1, x2, x3, x4, x5, x6, x7, x8⟩ x0 ⟨xs0, xs1, xs2⟩ 9).c (chain ⟨x1, x2, x3, x4, x5, x6, x7, x8⟩ x0 ⟨xs0, xs1, xs2⟩ 9).m

theorem last_m_C : kernelRun0_C.sl.v814 c arg1 harg1 arg2 harg2 arg3 harg3 arg4 harg4 arg5 harg5 arg6 harg6 arg7 harg7 arg8 harg8 arg9 harg9 arg13 harg13 arg14 harg14 arg15 harg15 x0 x1 x2 x3 x4 x5 x6 x7 x8 xs0 xs1 xs2
    = (chain ⟨x1, x2, x3, x4, x5, x6, x7, x8⟩ x0 ⟨xs0, xs1, xs2⟩ 10).m := by
  unfold kernelRun0_C.sl.v814 kernelRun0_C.sl.HS2_10
  refine (View.readCov_cons_toLoadRect _ _ _ _).trans ?_
  simp only [kernelRun0_C.sl.r_40, kernelRun0_C.sl.r_1, kernelRun0_C.sl.r_3, kernelRun0_C.sl.r_5, kernelRun0_C.sl.r_38, kernelRun0_C.sl.r, kernelRun0_C.sl.r_2, kernelRun0_C.sl.r_4, (m9_C c arg1 harg1 arg2 harg2 arg3 harg3 arg4 harg4 arg5 harg5 arg6 harg6 arg7 harg7 arg8 harg8 arg9 harg9 arg13 harg13 arg14 harg14 arg15 harg15 x0 x1 x2 x3 x4 x5 x6 x7 x8 xs0 xs1 xs2), (h9_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), (c9_C c arg1 harg1 arg2 harg2 arg3 harg3 arg4 harg4 arg5 harg5 arg6 harg6 arg7 harg7 arg8 harg8 arg9 harg9 arg13 harg13 arg14 harg14 x0 x1 x2 x3 x4 x5 x6 x7 x8 xs0 xs1 xs2), View.readAt_eq_ld, harg1.read_unread, harg2.read_unread, harg3.read_unread, harg4.read_unread, harg5.read_unread, harg6.read_unread, harg7.read_unread, harg8.read_unread, harg9.read_unread, harg13.read_unread, harg14.read_unread, harg15.read_unread, View.ld_unit_zero (S := S8x32) off_zero, View.ld_unit_zero (S := S2x128) off_zero, View.ld_unit_zero (S := S1x128) off_zero, View.ld_unit_zero (S := S128x128) off_zero, View.ld_unit_zero (S := S1x32768) off_zero, View.ld_unit_zero (S := S128x1024) off_zero, View.ld_unit_zero (S := S256x1024) off_zero, View.ld_unit_zero (S := S1x1024) off_zero, View.ld_unit_zero (S := S256x256) off_zero, ld_slab]
  exact step9_m ⟨x1, x2, x3, x4, x5, x6, x7, x8⟩ (slab x0 9) (chain ⟨x1, x2, x3, x4, x5, x6, x7, x8⟩ x0 ⟨xs0, xs1, xs2⟩ 9).h (chain ⟨x1, x2, x3, x4, x5, x6, x7, x8⟩ x0 ⟨xs0, xs1, xs2⟩ 9).c (chain ⟨x1, x2, x3, x4, x5, x6, x7, x8⟩ x0 ⟨xs0, xs1, xs2⟩ 9).m

/-- The result: one logistic unit on the maximum. -/
theorem out_C : out0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 xs2
    = k0_pay4 (chain ⟨x1, x2, x3, x4, x5, x6, x7, x8⟩ x0 ⟨xs0, xs1, xs2⟩ 10).m x9 x10 := by
  unfold out0_C_11
  rw [View.read_writes_eq_canon _ _ _ (cover0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xs0 xs1 xs2)]
  unfold kernelRun0_C
  dsimp only
  rw [View.canon_unit_zero (S := S256x1) off_zero]
  simp only [last_m_C, View.readAt_eq_ld, harg10.read_unread, harg11.read_unread, View.ld_unit_zero (S := S256x1) off_zero, View.ld_unit_zero (S := S1x1) off_zero, ld_slab]

end Net.Ker
-- ==== Proof.KPrefix.lean ====
module

public import proofs.«01_k».proof.Proof.Gen.KernelIdeal.Value
public import Idealize.ShloMosaic.Lib.Pointwise
public import Idealize.ShloMosaic.Lib.StableHlo.RunRead
public import Idealize.ShloMosaic.Lib.Tactic.CleanTypes

/-! # What the arrays hold when the kernel starts

The lines before the kernel, as terms over the program's arguments. -/

@[expose] public section

set_option maxRecDepth 16384

noncomputable section

namespace Net.Ker

open Cert.KernelIdeal Cert.KernelIdeal.Gen
open Idealize.ShloMosaic Idealize.ShloMosaic.TcCoe Idealize.ShloMosaic.StableHlo

/-- The features with samples last, two features side by side. -/
def xT (x : FVec Ideal S256x200x17x2 .f32) : FVec Ideal S200x17x512 .f32 :=
  shapeCast S200x17x512 (transpose S200x17x2x256 [1, 2, 3, 0] x transposes_S256x200x17x2_S200x17x2x256_1_2_3_0) shapeCasts_S200x17x2x256_S200x17x512

/-- The edges as numbers, padded by minus ones. -/
def edgeT (e : IVec S2x17 32) : FVec Ideal S8x32 .f32 :=
  Host.scatter scatter_S8x32_S2_S2x17_01_n_01_0 (fun _ b => b)
    (broadcastInDim S8x32 ![] bcast_S_S8x32 (constant S_ .f32 0xBF800000#32 : FVec Ideal S_ .f32))
    (concatenate S2 0 [⟨S1, broadcastInDim S1 ![] bcast_S_S1 (constantI S_ 32 0#32)⟩, ⟨S1, broadcastInDim S1 ![] bcast_S_S1 (constantI S_ 32 0#32)⟩]
      concatenates_S1_S1_S2_d0) (sitofp .f32 e)

/-- The order of the gates' columns. -/
def ordT : IVec S1024 32 :=
  concatenate S1024 0 [⟨S512, iotaInDim S512 32 0⟩,
    ⟨S256, addi (broadcastInDim S256 ![] bcast_S_S256 (constantI S_ 32 768#32)) (iotaInDim S256 32 0)⟩,
    ⟨S256, addi (broadcastInDim S256 ![] bcast_S_S256 (constantI S_ 32 512#32)) (iotaInDim S256 32 0)⟩] concatenates_S512_S256_S256_S1024_d0

/-- The same, as start indices of a gather. -/
def startT : IVec S1024x1 32 :=
  broadcastInDim S1024x1 ![0] bcast_S1024_S1024x1_0
    (select (cmpi .slt ordT (broadcastInDim S1024 ![] bcast_S_S1024 (constantI S_ 32 0#32)))
      (addi ordT (broadcastInDim S1024 ![] bcast_S_S1024 (constantI S_ 32 1024#32))) ordT)

def wihT (w : FVec Ideal S1024x128 .f32) : FVec Ideal S128x1024 .bf16 :=
  truncf .bf16 (Host.gather gather_S128x1024_S1024x1_S128x1024_0_1_n_n_1_1_1281
    (transpose S128x1024 [1, 0] w transposes_S1024x128_S128x1024_1_0) startT) bitsLt_bf16_f32

def whhT (w : FVec Ideal S1024x256 .f32) : FVec Ideal S256x1024 .bf16 :=
  truncf .bf16 (Host.gather gather_S256x1024_S1024x1_S256x1024_0_1_n_n_1_1_2561
    (transpose S256x1024 [1, 0] w transposes_S1024x256_S256x1024_1_0) startT) bitsLt_bf16_f32

def biasT (p q : FVec Ideal S1024 .f32) : FVec Ideal S1x1024 .f32 :=
  Host.gather gather_S1x1024_S1024x1_S1x1024_0_1_n_n_1_1_11 (shapeCast S1x1024 (addf p q) shapeCasts_S1024_S1x1024) startT

def tileT (b : FVec Ideal S128 .f32) : FVec Ideal S1x32768 .f32 :=
  shapeCast S1x32768 (shapeCast S32768 (broadcastInDim S256x128 ![0, 1] bcast_S1x128_S256x128_0_1 (shapeCast S1x128 b shapeCasts_S128_S1x128))
    shapeCasts_S256x128_S32768) shapeCasts_S32768_S1x32768

variable (m : (ℓ : Loc nD τ sig) → Buf (Elt Ideal) ℓ) (c : Dev nD)

theorem V_x : (V m c main_v1 : FVec Ideal S200x17x512 .f32) = xT (m (c, Proc.devRef .tc main_arg0)) := by
  unfold V
  after_reads_simp
  rfl

theorem V_edge : (V m c main_v7 : FVec Ideal S8x32 .f32) = edgeT (m (c, Proc.devRef .tc main_arg1)) := by
  unfold V
  after_reads_simp
  rfl

theorem V_w1 : (V m c main_arg2 : FVec Ideal S2x128 .f32) = m (c, Proc.devRef .tc main_arg2) := by
  unfold V
  after_reads_simp

theorem V_b1 : (V m c main_v43 : FVec Ideal S1x128 .f32)
    = shapeCast S1x128 (m (c, Proc.devRef .tc main_arg3) : FVec Ideal S128 .f32) shapeCasts_S128_S1x128 := by
  unfold V
  after_reads_simp
  rfl

theorem V_w2 : (V m c main_v50 : FVec Ideal S128x128 .bf16)
    = (truncf .bf16 (m (c, Proc.devRef .tc main_arg4) : FVec Ideal S128x128 .f32) bitsLt_bf16_f32 : FVec Ideal S128x128 .bf16) := by
  unfold V
  after_reads_simp

theorem V_b2 : (V m c main_v47 : FVec Ideal S1x32768 .f32) = tileT (m (c, Proc.devRef .tc main_arg5)) := by
  unfold V
  after_reads_simp
  rfl

theorem V_wih : (V m c main_v27 : FVec Ideal S128x1024 .bf16) = wihT (m (c, Proc.devRef .tc main_arg6)) := by
  unfold V
  after_reads_simp
  rfl

theorem V_whh : (V m c main_v35 : FVec Ideal S256x1024 .bf16) = whhT (m (c, Proc.devRef .tc main_arg7)) := by
  unfold V
  after_reads_simp
  rfl

theorem V_bias : (V m c main_v42 : FVec Ideal S1x1024 .f32)
    = biasT (m (c, Proc.devRef .tc main_arg8)) (m (c, Proc.devRef .tc main_arg9)) := by
  unfold V
  after_reads_simp
  rfl

theorem V_fcw : (V m c main_v48 : FVec Ideal S256x1 .f32)
    = transpose S256x1 [1, 0] (m (c, Proc.devRef .tc main_arg10) : FVec Ideal S1x256 .f32) transposes_S1x256_S256x1_1_0 := by
  unfold V
  after_reads_simp

theorem V_fcb : (V m c main_v49 : FVec Ideal S1x1 .f32)
    = shapeCast S1x1 (m (c, Proc.devRef .tc main_arg11) : FVec Ideal S1 .f32) shapeCasts_S1_S1x1 := by
  unfold V
  after_reads_simp
  rfl

end Net.Ker
-- ==== Proof.KBlocks.lean ====
module

public import proofs.«01_k».proof.Proof.KPrefix
public import Idealize.ShloMosaic.Lib.Pipeline.ValueKit

/-! # The blocks the kernel reads

The features' blocks are ten time steps each; every other block is its whole array. -/

@[expose] public section

set_option maxRecDepth 16384

noncomputable section

namespace Net.Ker

open Cert.KernelIdeal Cert.KernelIdeal.Gen
open Idealize.ShloMosaic Idealize.ShloMosaic.TcCoe

variable (m : (ℓ : Loc nD τ sig) → Buf (Elt Ideal) ℓ) (c : Dev nD)

theorem at_0 : ∀ t : Fin cfg0.N, win0_0.index t = ![t.val, 0, 0] := (by decide +kernel : ∀ t : Fin grid0.N, _)

/-- The features at time `10 t + k`. -/
theorem blk_0 (t : Fin cfg0.N) (k : Fin 10) (n : Fin 17) (l : Fin 512) (h : 10 * t.val + k.val < 200) :
    (iblk m c 0 t : FVec Ideal S10x17x512 .f32) (ix3 k n l) = (V m c main_v1 : FVec Ideal S200x17x512 .f32) (ix3 ⟨10 * t.val + k.val, h⟩ n l) := by
  blk_ext [iblk, at_0 t]

theorem at_1 : ∀ t : Fin cfg0.N, win0_1.index t = ![0, 0] := (by decide +kernel : ∀ t : Fin grid0.N, _)

theorem blk_1 (t : Fin cfg0.N) : (iblk m c 1 t : FVec Ideal S8x32 .f32) = V m c main_v7 := by
  funext y
  blk_ext [iblk, at_1 t]

theorem at_2 : ∀ t : Fin cfg0.N, win0_2.index t = ![0, 0] := (by decide +kernel : ∀ t : Fin grid0.N, _)

theorem blk_2 (t : Fin cfg0.N) : (iblk m c 2 t : FVec Ideal S2x128 .f32) = V m c main_arg2 := by
  funext y
  blk_ext [iblk, at_2 t]

theorem at_3 : ∀ t : Fin cfg0.N, win0_3.index t = ![0, 0] := (by decide +kernel : ∀ t : Fin grid0.N, _)

theorem blk_3 (t : Fin cfg0.N) : (iblk m c 3 t : FVec Ideal S1x128 .f32) = V m c main_v43 := by
  funext y
  blk_ext [iblk, at_3 t]

theorem at_4 : ∀ t : Fin cfg0.N, win0_4.index t = ![0, 0] := (by decide +kernel : ∀ t : Fin grid0.N, _)

theorem blk_4 (t : Fin cfg0.N) : (iblk m c 4 t : FVec Ideal S128x128 .bf16) = V m c main_v50 := by
  funext y
  blk_ext [iblk, at_4 t]

theorem at_5 : ∀ t : Fin cfg0.N, win0_5.index t = ![0, 0] := (by decide +kernel : ∀ t : Fin grid0.N, _)

theorem blk_5 (t : Fin cfg0.N) : (iblk m c 5 t : FVec Ideal S1x32768 .f32) = V m c main_v47 := by
  funext y
  blk_ext [iblk, at_5 t]

theorem at_6 : ∀ t : Fin cfg0.N, win0_6.index t = ![0, 0] := (by decide +kernel : ∀ t : Fin grid0.N, _)

theorem blk_6 (t : Fin cfg0.N) : (iblk m c 6 t : FVec Ideal S128x1024 .bf16) = V m c main_v27 := by
  funext y
  blk_ext [iblk, at_6 t]

theorem at_7 : ∀ t : Fin cfg0.N, win0_7.index t = ![0, 0] := (by decide +kernel : ∀ t : Fin grid0.N, _)

theorem blk_7 (t : Fin cfg0.N) : (iblk m c 7 t : FVec Ideal S256x1024 .bf16) = V m c main_v35 := by
  funext y
  blk_ext [iblk, at_7 t]

theorem at_8 : ∀ t : Fin cfg0.N, win0_8.index t = ![0, 0] := (by decide +kernel : ∀ t : Fin grid0.N, _)

theorem blk_8 (t : Fin cfg0.N) : (iblk m c 8 t : FVec Ideal S1x1024 .f32) = V m c main_v42 := by
  funext y
  blk_ext [iblk, at_8 t]

theorem at_9 : ∀ t : Fin cfg0.N, win0_9.index t = ![0, 0] := (by decide +kernel : ∀ t : Fin grid0.N, _)

theorem blk_9 (t : Fin cfg0.N) : (iblk m c 9 t : FVec Ideal S256x1 .f32) = V m c main_v48 := by
  funext y
  blk_ext [iblk, at_9 t]

theorem at_10 : ∀ t : Fin cfg0.N, win0_10.index t = ![0, 0] := (by decide +kernel : ∀ t : Fin grid0.N, _)

theorem blk_10 (t : Fin cfg0.N) : (iblk m c 10 t : FVec Ideal S1x1 .f32) = V m c main_v49 := by
  funext y
  blk_ext [iblk, at_10 t]

end Net.Ker
-- ==== Proof.KCell.lean ====
module

public import proofs.«01_k».proof.Proof.KChain

/-! # One step of the kernel is one step of the network

The weights sit in the kernel's arrays with the gates' columns in another order, the second bias repeated for every
sample, and the two features of a step side by side along the lanes. -/

@[expose] public section

set_option maxRecDepth 16384

noncomputable section

namespace Net.Ker

open Cert.KernelIdeal Cert.KernelIdeal.Gen
open Idealize.ShloMosaic

/-- Which gate a column of the kernel's weights holds: the last two quarters are exchanged. -/
def perm (g : Fin 1024) : Fin 1024 :=
  if g.val < 512 then g else if h : g.val < 768 then ⟨g.val + 256, by omega⟩ else ⟨g.val - 256, by omega⟩

/-- The kernel's arrays hold the network's weights and graph. -/
structure Fits (W : Win) (D : Data) : Prop where
  adj : ∀ n j, k0_pay8 (F := Ideal) W.e (ix2 n j) = D.A n j
  w1 : ∀ k h, W.w1 (ix2 k h) = D.w1 k h
  b1 : ∀ h, W.b1 (ix2 0 h) = D.b1 h
  w2 : ∀ k h, W.w2 (ix2 k h) = D.w2 k h
  b2 : ∀ (s : Fin 256) (k : Fin 128), W.b2 (ix2 0 ⟨s * 128 + k, by omega⟩) = D.b2 k
  wih : ∀ k g, W.wih (ix2 k g) = D.wih (perm g) k
  whh : ∀ j g, W.whh (ix2 j g) = D.whh (perm g) j
  bias : ∀ g, W.bias (ix2 0 g) = D.bih (perm g) + D.bhh (perm g)

/-- The features and the first weight are real numbers. -/
structure Fin1 (D : Data) : Prop where
  x : ∀ b t n k, ∃ r : ℝ, D.x b t n k = (r : EReal)
  w1 : ∀ k h, ∃ r : ℝ, D.w1 k h = (r : EReal)

/-- A slab holds the features of time `t`. -/
def Holds (x : FVec Ideal S1x17x512 .f32) (D : Data) (t : ℕ) : Prop :=
  ∀ (n : Fin 17) (k : Fin 2) (b : Fin 256), x (ix3 0 n ⟨k * 256 + b, by omega⟩) = D.x b t n k

/-- The carried arrays are the network's state after `t` steps. -/
structure Agree (s : Car) (D : Data) (t : ℕ) : Prop where
  h : ∀ b j, s.h (ix2 b j) = (D.state b t).1 j
  c : ∀ b j, s.c (ix2 b j) = (D.state b t).2 j
  m : ∀ b j, s.m (ix2 b j) = D.best b t j

variable {W : Win} {D : Data} {x : FVec Ideal S1x17x512 .f32} {t : ℕ}

/-- Summing over the nodes first and over the two features second is the other order: all numbers are real. -/
theorem exchange (hD : Fin1 D) (b : Fin 256) (t : ℕ) (n : Fin 17) (h : Fin 128) :
    (∑ j, D.A n j * D.x b t j 0) * D.w1 0 h + (∑ j, D.A n j * D.x b t j 1) * D.w1 1 h
      = ∑ j, D.A n j * ∑ k, D.x b t j k * D.w1 k h := by
  choose X hX using hD.x
  choose V hV using hD.w1
  simp only [Data.A, hX, hV, ← EReal.coe_mul, ← coe_sum, ← EReal.coe_add]
  congr 1
  simp only [Fin.sum_univ_two, Finset.sum_mul, ← Finset.sum_add_distrib]
  refine Finset.sum_congr rfl fun j _ => ?_
  ring

theorem pay9_apply (e : FVec Ideal S8x32 .f32) (n j : Fin 17) : k0_pay9 (F := Ideal) e (ix2 n j) = k0_pay8 (F := Ideal) e (ix2 n j) := rfl

theorem pay10_apply (w : FVec Ideal S2x128 .f32) (k : Fin 2) (h : Fin 128) : k0_pay10 (F := Ideal) w (ix2 k h) = w (ix2 k h) := by
  unfold k0_pay10
  pointwise

theorem pay11_apply (w : FVec Ideal S128x128 .bf16) (k h : Fin 128) : k0_pay11 (F := Ideal) w (ix2 k h) = w (ix2 k h) := by
  unfold k0_pay11
  pointwise

theorem pay12_apply (w : FVec Ideal S1x128 .f32) (h : Fin 128) : k0_pay12 (F := Ideal) w (ix2 0 h) = w (ix2 0 h) := by
  unfold k0_pay12
  pointwise

theorem pay13_apply (w : FVec Ideal S1x32768 .f32) (h : Fin 32768) : k0_pay13 (F := Ideal) w (ix2 0 h) = w (ix2 0 h) := by
  unfold k0_pay13
  pointwise

theorem pay15_apply (w : FVec Ideal S256x256 .f32) (b j : Fin 256) : k0_pay15 (F := Ideal) w (ix2 b j) = w (ix2 b j) := by
  unfold k0_pay15
  pointwise

/-- The first layer. -/
theorem hid1_eq (hW : Fits W D) (hD : Fin1 D) (hx : Holds x D t) (n : Fin 17) (b : Fin 256) (h : Fin 128) :
    hid1T (axT (k0_pay8 W.e) x) (k0_pay10 W.w1) (k0_pay12 W.b1) (ix2 ⟨n * 256 + b, by omega⟩ h) = D.hid1 b t n h := by
  rw [hid1T_apply, axT_apply, axT_apply, pay10_apply, pay10_apply, pay12_apply, hW.w1, hW.w1, hW.b1]
  unfold Data.hid1
  rw [← exchange hD]
  have h0 : ∀ j, x (ix3 0 j ⟨b, by omega⟩) = D.x b t j 0 := fun j => by
    rw [← hx j 0 b]; congr 2; exact Fin.ext (by simp)
  have h1 : ∀ j, x (ix3 0 j ⟨256 + b, by omega⟩) = D.x b t j 1 := fun j => by
    rw [← hx j 1 b]; rfl
  simp only [h0, h1, hW.adj]

/-- The pooled second layer. -/
theorem pool_eq (hW : Fits W D) (hD : Fin1 D) (hx : Holds x D t) (b : Fin 256) (k : Fin 128) :
    poolT (hid2T (k0_pay9 W.e) (hid1T (axT (k0_pay8 W.e) x) (k0_pay10 W.w1) (k0_pay12 W.b1)) (k0_pay11 W.w2) (k0_pay13 W.b2)) (ix2 b k)
      = D.pooled b t k := by
  rw [poolT_apply]
  unfold Data.pooled
  refine congrArg (· * _) (Finset.sum_congr rfl fun n _ => ?_)
  rw [hid2T_apply, pay13_apply, hW.b2]
  unfold Data.hid2
  simp only [pay9_apply, hW.adj, pay11_apply, hW.w2, hid1_eq hW hD hx]

/-- The gates. -/
theorem gate_eq (hW : Fits W D) (hD : Fin1 D) (hx : Holds x D t) (h : FVec Ideal S256x256 .f32) (b : Fin 256) (hp : Fin 256 → EReal)
    (hh : ∀ j, h (ix2 b j) = hp j) (g : Fin 1024) :
    k0_pay16 (W.inp x) (k0_pay15 h) W.whh W.bias (ix2 b g) = D.gate b t hp (perm g) := by
  rw [pay16_apply]
  unfold Data.gate
  rw [hW.bias]
  refine congrArg₂ (· + ·) (congrArg₂ (· + ·) ?_ ?_) rfl
  · unfold Win.inp
    rw [pay14_eq]
    clean_types
    pointwise
    simp only [pool_eq hW hD hx, hW.wih]
  · simp only [pay15_apply, hh, hW.whh]

theorem perm_lo (j : Fin 256) : perm ⟨j, by omega⟩ = ⟨j, by omega⟩ := by
  unfold perm; rw [if_pos (show j.val < 512 by omega)]

theorem perm_f (j : Fin 256) : perm ⟨256 + j, by omega⟩ = ⟨256 + j, by omega⟩ := by
  unfold perm; rw [if_pos (show 256 + j.val < 512 by omega)]

theorem perm_o (j : Fin 256) : perm ⟨512 + j, by omega⟩ = ⟨768 + j, by omega⟩ := by
  unfold perm; rw [if_neg (show ¬ 512 + j.val < 512 by omega), dif_pos (show 512 + j.val < 768 by omega)]
  exact Fin.ext (show 512 + j.val + 256 = 768 + j.val by omega)

theorem perm_g (j : Fin 256) : perm ⟨768 + j, by omega⟩ = ⟨512 + j, by omega⟩ := by
  unfold perm; rw [if_neg (show ¬ 768 + j.val < 512 by omega), dif_neg (show ¬ 768 + j.val < 768 by omega)]
  exact Fin.ext (show 768 + j.val - 256 = 512 + j.val by omega)

/-- One step keeps the agreement. -/
theorem next_agree (hW : Fits W D) (hD : Fin1 D) (hx : Holds x D t) {s : Car} (hs : Agree s D t) : Agree (W.next x s) D (t + 1) := by
  have hc : ∀ b j, W.newC x s.h s.c (ix2 b j) = D.cellNext b t (D.state b t).1 (D.state b t).2 j := by
    intro b j
    have hg := gate_eq hW hD hx s.h b _ (hs.h b)
    unfold Win.newC Data.cellNext
    rw [pay18_apply, hg, hg, hg, perm_lo, perm_f, perm_g, hs.c]
  have hh : ∀ b j, W.newH x s.h s.c (ix2 b j) = D.hidNext b t (D.state b t).1 (D.state b t).2 j := by
    intro b j
    have hg := gate_eq hW hD hx s.h b _ (hs.h b)
    unfold Win.newH Data.hidNext
    have hc := hc b j
    unfold Win.newC at hc
    rw [pay19_apply, hg, perm_o, hc]
  refine ⟨hh, hc, fun b j => ?_⟩
  show max (s.m (ix2 b j)) (W.newH x s.h s.c (ix2 b j)) = max (D.best b t j) ((D.state b (t + 1)).1 j)
  rw [hs.m, hh]
  rfl

/-- The first carried arrays agree with the network before its first step. -/
theorem start_agree (D : Data) : Agree start D 0 := by
  refine ⟨fun b j => ?_, fun b j => ?_, fun b j => ?_⟩
  · show k0_pay5 (F := Ideal) (ix2 b j) = 0
    unfold k0_pay5
    pointwise
  · show k0_pay6 (F := Ideal) (ix2 b j) = 0
    unfold k0_pay6
    pointwise
  · show k0_pay7 (F := Ideal) (ix2 b j) = ⊥
    unfold k0_pay7
    pointwise
    simp [Ideal.ofBits, Ideal.ieee]

/-- A block's ten steps keep the agreement. -/
theorem chain_agree (hW : Fits W D) (hD : Fin1 D) (x : FVec Ideal S10x17x512 .f32) (t : ℕ)
    (hx : ∀ k : Fin 10, Holds (slab x k) D (t + k)) {s : Car} (hs : Agree s D t) : ∀ k ≤ 10, Agree (chain W x s k) D (t + k)
  | 0, _ => hs
  | k + 1, hk => by
    have e : (⟨k % 10, Nat.mod_lt _ (by norm_num)⟩ : Fin 10) = ⟨k, by omega⟩ := Fin.ext (Nat.mod_eq_of_lt (by omega))
    show Agree (W.next (slab x ⟨k % 10, Nat.mod_lt _ (by norm_num)⟩) (chain W x s k)) D (t + k + 1)
    rw [e]
    exact next_agree hW hD (hx ⟨k, by omega⟩) (chain_agree hW hD x t hx hs k (by omega))

/-- The logistic unit on the maximum. -/
theorem pay4_apply (m : FVec Ideal S256x256 .f32) (w : FVec Ideal S256x1 .f32) (q : FVec Ideal S1x1 .f32) (b : Fin 256) :
    k0_pay4 (F := Ideal) m w q (ix2 b 0) = Ideal.logistic ((∑ j : Fin 256, m (ix2 b j) * w (ix2 j 0)) + q (ix2 0 0)) := by
  unfold k0_pay4
  pointwise

end Net.Ker
-- ==== Proof.DataOf.lean ====
module

public import proofs.«01_k».proof.Proof.Spec
public import Idealize.ShloMosaic.Lib.Pointwise

/-! # The network's data, from the twelve argument arrays -/

@[expose] public section

noncomputable section

namespace Net

open Idealize.ShloMosaic

/-- The data of the network in the programs' arguments. -/
def dataOf (x : FVec Ideal ⟨4, ![256, 200, 17, 2]⟩ .f32) (e : IVec ⟨2, ![2, 17]⟩ 32) (w1 : FVec Ideal ⟨2, ![2, 128]⟩ .f32)
    (b1 : FVec Ideal ⟨1, ![128]⟩ .f32) (w2 : FVec Ideal ⟨2, ![128, 128]⟩ .f32) (b2 : FVec Ideal ⟨1, ![128]⟩ .f32)
    (wih : FVec Ideal ⟨2, ![1024, 128]⟩ .f32) (whh : FVec Ideal ⟨2, ![1024, 256]⟩ .f32) (bih bhh : FVec Ideal ⟨1, ![1024]⟩ .f32)
    (fcw : FVec Ideal ⟨2, ![1, 256]⟩ .f32) (fcb : FVec Ideal ⟨1, ![1]⟩ .f32) : Data where
  x b t n k := x (ix4 b ⟨t % 200, Nat.mod_lt _ (by norm_num)⟩ n k)
  row n := node (e (ix2 0 n))
  col n := node (e (ix2 1 n))
  w1 k h := w1 (ix2 k h)
  b1 h := b1 (ix1 h)
  w2 k h := w2 (ix2 k h)
  b2 h := b2 (ix1 h)
  wih g k := wih (ix2 g k)
  bih g := bih (ix1 g)
  whh g j := whh (ix2 g j)
  bhh g := bhh (ix1 g)
  fcw j := fcw (ix2 0 j)
  fcb := fcb (ix1 0)

end Net
-- ==== Proof.KIndex.lean ====
module

public import proofs.«01_k».proof.Proof.KPrefix
public import proofs.«01_k».proof.Proof.KCell
public import proofs.«01_k».proof.Proof.DataOf
public import Idealize.ShloMosaic.Lib.Routing.OpsPair
public import Idealize.ShloMosaic.Lib.Routing.OpsSet

/-! # The arrays the kernel starts from, read at an index -/

@[expose] public section

set_option maxRecDepth 16384

noncomputable section

namespace Net.Ker

open Cert.KernelIdeal Cert.KernelIdeal.Gen
open Idealize.ShloMosaic Idealize.ShloMosaic.Routing

theorem xT_apply (x : FVec Ideal S256x200x17x2 .f32) (t : Fin 200) (n : Fin 17) (k : Fin 2) (b : Fin 256) :
    xT x (ix3 t n ⟨k * 256 + b, by omega⟩) = x (ix4 b t n k) := by
  unfold xT
  pointwise

theorem b1T_apply (b : FVec Ideal S128 .f32) (h : Fin 128) : shapeCast S1x128 b shapeCasts_S128_S1x128 (ix2 0 h) = b (ix1 h) := by
  pointwise

theorem tileT_apply (b : FVec Ideal S128 .f32) (s : Fin 256) (k : Fin 128) : tileT b (ix2 0 ⟨s * 128 + k, by omega⟩) = b (ix1 k) := by
  unfold tileT
  pointwise

theorem fcwT_apply (w : FVec Ideal S1x256 .f32) (j : Fin 256) :
    transpose S256x1 [1, 0] w transposes_S1x256_S256x1_1_0 (ix2 j 0) = w (ix2 0 j) := by
  pointwise

theorem fcbT_apply (w : FVec Ideal S1 .f32) : shapeCast S1x1 w shapeCasts_S1_S1x1 (ix2 0 0) = w (ix1 0) := by
  pointwise

theorem ordT_apply (g : Fin 1024) : ordT (ix1 g) = BitVec.ofNat 32 (perm g).val := by
  unfold ordT
  pointwise
  unfold perm
  split_ifs with h h' <;> first
    | rfl
    | (simp only [IntOp.addi, ← BitVec.ofNat_add]; congr 1; omega)
    | omega

/-- A number that is not negative is not moved. -/
theorem select_pos : ∀ p : Fin 1024, (Scalar.select (IntOp.cmpi CmpIPredicate.slt (BitVec.ofNat 32 p.val) 0#32)
    (IntOp.addi (BitVec.ofNat 32 p.val) 1024#32) (BitVec.ofNat 32 p.val)).toInt = (p.val : Int) := by
  decide +kernel

theorem startT_apply (g : Fin 1024) : (startT (ix2 g 0)).toInt = ((perm g).val : Int) := by
  unfold startT
  pointwise
  rw [ordT_apply]
  exact select_pos (perm g)

theorem gather_ih {α : Type} (x : S128x1024.Idx → α) (idx : IVec S1024x1 32) (k : Fin 128) (g p : Fin 1024)
    (h : (idx (ix2 g 0)).toInt = (p.val : Int)) :
    Host.gather gather_S128x1024_S1024x1_S128x1024_0_1_n_n_1_1_1281 x idx (ix2 k g) = x (ix2 k p) := by
  unfold Host.gather
  congr 1
  have hs : gather_S128x1024_S1024x1_S128x1024_0_1_n_n_1_1_1281.start (ix2 k g) idx 1 = min (idx (ix2 g 0)).toInt.toNat 1023 := by
    unfold GatherDims.start
    rw [dif_pos (by exact List.mem_singleton.2 rfl)]
    congr 4
    funext b
    fin_cases b <;> rfl
  funext a
  refine Fin.ext ?_
  fin_cases a
  · exact Nat.zero_add _
  · show gather_S128x1024_S1024x1_S128x1024_0_1_n_n_1_1_1281.start (ix2 k g) idx 1 + 0 + 0 = p.val
    rw [hs, h]
    have := p.isLt
    omega

theorem gather_hh {α : Type} (x : S256x1024.Idx → α) (idx : IVec S1024x1 32) (k : Fin 256) (g p : Fin 1024)
    (h : (idx (ix2 g 0)).toInt = (p.val : Int)) :
    Host.gather gather_S256x1024_S1024x1_S256x1024_0_1_n_n_1_1_2561 x idx (ix2 k g) = x (ix2 k p) := by
  unfold Host.gather
  congr 1
  have hs : gather_S256x1024_S1024x1_S256x1024_0_1_n_n_1_1_2561.start (ix2 k g) idx 1 = min (idx (ix2 g 0)).toInt.toNat 1023 := by
    unfold GatherDims.start
    rw [dif_pos (by exact List.mem_singleton.2 rfl)]
    congr 4
    funext b
    fin_cases b <;> rfl
  funext a
  refine Fin.ext ?_
  fin_cases a
  · exact Nat.zero_add _
  · show gather_S256x1024_S1024x1_S256x1024_0_1_n_n_1_1_2561.start (ix2 k g) idx 1 + 0 + 0 = p.val
    rw [hs, h]
    have := p.isLt
    omega

theorem gather_b {α : Type} (x : S1x1024.Idx → α) (idx : IVec S1024x1 32) (g p : Fin 1024)
    (h : (idx (ix2 g 0)).toInt = (p.val : Int)) :
    Host.gather gather_S1x1024_S1024x1_S1x1024_0_1_n_n_1_1_11 x idx (ix2 0 g) = x (ix2 0 p) := by
  unfold Host.gather
  congr 1
  have hs : gather_S1x1024_S1024x1_S1x1024_0_1_n_n_1_1_11.start (ix2 0 g) idx 1 = min (idx (ix2 g 0)).toInt.toNat 1023 := by
    unfold GatherDims.start
    rw [dif_pos (by exact List.mem_singleton.2 rfl)]
    congr 4
    funext b
    fin_cases b <;> rfl
  funext a
  refine Fin.ext ?_
  fin_cases a
  · rfl
  · show gather_S1x1024_S1024x1_S1x1024_0_1_n_n_1_1_11.start (ix2 0 g) idx 1 + 0 + 0 = p.val
    rw [hs, h]
    have := p.isLt
    omega

theorem trunc_apply {s : Shape} (x : FVec Ideal s .f32) (i : s.Idx) : (truncf .bf16 x bitsLt_bf16_f32 : FVec Ideal s .bf16) i = x i := rfl

theorem wihT_apply (w : FVec Ideal S1024x128 .f32) (k : Fin 128) (g : Fin 1024) : wihT w (ix2 k g) = w (ix2 (perm g) k) := by
  unfold wihT
  rw [trunc_apply]
  refine (gather_ih (α := EReal) _ _ k g (perm g) (startT_apply g)).trans ?_
  pointwise

theorem whhT_apply (w : FVec Ideal S1024x256 .f32) (k : Fin 256) (g : Fin 1024) : whhT w (ix2 k g) = w (ix2 (perm g) k) := by
  unfold whhT
  rw [trunc_apply]
  refine (gather_hh (α := EReal) _ _ k g (perm g) (startT_apply g)).trans ?_
  pointwise

theorem biasT_apply (p q : FVec Ideal S1024 .f32) (g : Fin 1024) : biasT p q (ix2 0 g) = p (ix1 (perm g)) + q (ix1 (perm g)) := by
  unfold biasT
  rw [gather_b _ _ g (perm g) (startT_apply g)]
  pointwise

/-- Where an entry of the edges lands. -/
theorem lands (idx : IVec S2 32) (h0 : idx (ix1 0) = 0#32) (h1 : idx (ix1 1) = 0#32) (k : Fin 2) (l : Fin 17) (r : Fin 8) (q : Fin 32) :
    scatter_S8x32_S2_S2x17_01_n_01_0.resultIdx? (ix2 k l) idx = some (ix2 r q) ↔ k.val = r.val ∧ l.val = q.val := by
  rw [resultIdx?_eq_some]
  have s0 : scatter_S8x32_S2_S2x17_01_n_01_0.start (ix2 k l) idx 0 = (idx (ix1 0)).toInt := by
    unfold ScatterDims.start
    rw [dif_pos (by decide)]
    congr 2
    funext b
    fin_cases b <;> rfl
  have s1 : scatter_S8x32_S2_S2x17_01_n_01_0.start (ix2 k l) idx 1 = (idx (ix1 1)).toInt := by
    unfold ScatterDims.start
    rw [dif_pos (by decide)]
    congr 2
    funext b
    fin_cases b <;> rfl
  have w0 : scatter_S8x32_S2_S2x17_01_n_01_0.window (ix2 k l) 0 = k.val := rfl
  have w1 : scatter_S8x32_S2_S2x17_01_n_01_0.window (ix2 k l) 1 = l.val := rfl
  rw [h0] at s0
  rw [h1] at s1
  have z : (0#32 : BitVec 32).toInt = 0 := rfl
  rw [z] at s0 s1
  constructor
  · intro h
    have e0 := h 0
    have e1 := h 1
    rw [s0, w0] at e0
    rw [s1, w1] at e1
    have e0' : (0 : Int) + (k.val : Int) = (r.val : Int) := e0
    have e1' : (0 : Int) + (l.val : Int) = (q.val : Int) := e1
    omega
  · rintro ⟨e0, e1⟩ a
    fin_cases a
    · show scatter_S8x32_S2_S2x17_01_n_01_0.start (ix2 k l) idx 0 + ((scatter_S8x32_S2_S2x17_01_n_01_0.window (ix2 k l) 0 : ℕ) : Int) = (r.val : Int)
      rw [s0, w0]
      omega
    · show scatter_S8x32_S2_S2x17_01_n_01_0.start (ix2 k l) idx 1 + ((scatter_S8x32_S2_S2x17_01_n_01_0.window (ix2 k l) 1 : ℕ) : Int) = (q.val : Int)
      rw [s1, w1]
      omega

theorem neg_one : Ideal.ofBits FTy.f32 3212836864#32 = ((-1 : ℝ) : EReal) := by
  simp [Ideal.ofBits, Ideal.ieee, -EReal.coe_mul]; norm_num

/-- Row `k` of the padded edges. -/
theorem edgeT_apply (e : IVec S2x17 32) (he : ∀ (k : Fin 2) (l : Fin 17), (e (ix2 k l)).toNat < 17) (k : Fin 2) (l : Fin 32) :
    edgeT e (ix2 ⟨k.val, by omega⟩ l)
      = (((if h : l.val < 17 then ((node (e (ix2 k ⟨l, h⟩))).val : ℝ) else -1) : ℝ) : EReal) := by
  unfold edgeT
  have h0 : concatenate S2 0 [⟨S1, broadcastInDim S1 ![] bcast_S_S1 (constantI S_ 32 0#32)⟩, ⟨S1, broadcastInDim S1 ![] bcast_S_S1 (constantI S_ 32 0#32)⟩]
      concatenates_S1_S1_S2_d0 (ix1 0) = 0#32 := by
    pointwise
  have h1 : concatenate S2 0 [⟨S1, broadcastInDim S1 ![] bcast_S_S1 (constantI S_ 32 0#32)⟩, ⟨S1, broadcastInDim S1 ![] bcast_S_S1 (constantI S_ 32 0#32)⟩]
      concatenates_S1_S1_S2_d0 (ix1 1) = 0#32 := by
    pointwise
  by_cases h : l.val < 17
  · rw [dif_pos h]
    refine scatter_set_hit _ _ _ _ _ _ (fun i hi => ?_) (ix2 k ⟨l, h⟩) ((lands _ h0 h1 _ _ _ _).2 ⟨rfl, rfl⟩)
    obtain ⟨p, q, rfl⟩ : ∃ (p : Fin 2) (q : Fin 17), i = ix2 p q := ⟨i 0, i 1, by funext a; fin_cases a <;> rfl⟩
    have := (lands _ h0 h1 _ _ _ _).1 hi
    obtain rfl : p = k := Fin.ext this.1
    obtain rfl : q = ⟨l, h⟩ := Fin.ext this.2
    have hn := he p ⟨l, h⟩
    show (((e (ix2 p ⟨l, h⟩)).toInt : ℝ) : EReal) = _
    have : (e (ix2 p ⟨l, h⟩)).toInt = ((node (e (ix2 p ⟨l, h⟩))).val : Int) := by
      unfold node
      rw [BitVec.toInt_eq_toNat_of_lt (by omega)]
      simp [Nat.mod_eq_of_lt hn]
    rw [this]
    rfl
  · rw [dif_neg h, scatter_set_miss]
    · pointwise
      exact neg_one
    · intro i hi
      obtain ⟨p, q, rfl⟩ : ∃ (p : Fin 2) (q : Fin 17), i = ix2 p q := ⟨i 0, i 1, by funext a; fin_cases a <;> rfl⟩
      have := (lands _ h0 h1 _ _ _ _).1 hi
      have := q.isLt
      omega

end Net.Ker
-- ==== Proof.KAdj.lean ====
module

public import proofs.«01_k».proof.Proof.Graph
public import proofs.«01_k».proof.Proof.Gen.KernelIdeal.Skeleton
public import Idealize.ShloMosaic.Lib.Pointwise
public import Idealize.ShloMosaic.Lib.Tactic.CleanTypes

/-! # The kernel's normalised adjacency matrix -/

@[expose] public section

set_option maxRecDepth 16384

noncomputable section

namespace Net.Ker

open Cert.KernelIdeal Cert.KernelIdeal.Gen
open Idealize.ShloMosaic

/-- Where the entries of a row of edge ends name each node. -/
def hotT (v : FVec Ideal S1x32 .f32) : FVec Ideal S17x32 .f32 :=
  sitofp .f32 (extui 32 (cmpf .oeq (broadcastTo S17x32 v broadcasts_S1x32_S17x32) (sitofp .f32 (iota .tc S17x32 32 [0] iota_S17x32_d0_w32))) natLt_1_32)

/-- The identity matrix. -/
def eyeT : FVec Ideal S17x17 .f32 :=
  sitofp .f32 (extui 32 (cmpi .eq (iota .tc S17x17 32 [0] iota_S17x17_d0_w32) (iota .tc S17x17 32 [1] iota_S17x17_d1_w32)) natLt_1_32)

/-- Edge counts with the loops. -/
def cntT (e : FVec Ideal S8x32 .f32) : FVec Ideal S17x17 .f32 :=
  addf (matmul dot_S17x32_S17x32_S17x17_1_1_0_0_n_n none
    (hotT (extractStridedSlice S1x32 ![1, 0] e slices_S8x32_o1_0_S1x32))
    (hotT (extractStridedSlice S1x32 ![0, 0] e slices_S8x32_o0_0_S1x32)) (constant S17x17 .f32 0x00000000#32)) eyeT

/-- The diagonal matrix of the inverse roots of the degrees. -/
def diagT (a : FVec Ideal S17x17 .f32) : FVec Ideal S17x17 .f32 :=
  mulf eyeT (broadcastTo S17x17 (rsqrt (shapeCast S17x1 (multiReduction .add [1] S17 a 0x00000000#32 reduces_S17x17_S17 (.inl rfl) rfl) shapeCasts_S17_S17x1)) broadcasts_S17x1_S17x17)

theorem pay8_eq (e : FVec Ideal S8x32 .f32) : k0_pay8 e
    = matmul dot_S17x17_S17x17_S17x17_1_0_0_1_n_n none
        (matmul dot_S17x17_S17x17_S17x17_1_0_0_1_n_n none (diagT (cntT (shapeCast S8x32 e shapeCasts_S8x32_S8x32)))
          (cntT (shapeCast S8x32 e shapeCasts_S8x32_S8x32)) (constant S17x17 .f32 0x00000000#32))
        (diagT (cntT (shapeCast S8x32 e shapeCasts_S8x32_S8x32))) (constant S17x17 .f32 0x00000000#32) := rfl

theorem hotT_apply (v : FVec Ideal S1x32 .f32) (n : Fin 17) (l : Fin 32) :
    hotT v (ix2 n l) = if v (ix2 0 l) = ((n.val : ℝ) : EReal) then 1 else 0 := by
  unfold hotT
  pointwise
  have e : FloatOps.sitofp (F := Ideal) FTy.f32 (BitVec.ofNat 32 n.val) = ((n.val : ℝ) : EReal) := by
    show (((BitVec.ofNat 32 n.val).toInt : ℝ) : EReal) = _
    have : (BitVec.ofNat 32 n.val).toInt = (n.val : ℤ) := by fin_cases n <;> rfl
    rw [this]; norm_num
  rw [e]
  by_cases h : v (ix2 0 l) = ((n.val : ℝ) : EReal)
  · rw [if_pos h, decide_eq_true h]
    show (((BitVec.setWidth 32 (BitVec.ofBool true)).toInt : ℝ) : EReal) = _
    simp
  · rw [if_neg h, decide_eq_false h]
    show (((BitVec.setWidth 32 (BitVec.ofBool false)).toInt : ℝ) : EReal) = _
    simp

theorem eyeT_apply (n j : Fin 17) : eyeT (ix2 n j) = if n = j then 1 else 0 := by
  unfold eyeT
  pointwise
  by_cases h : n = j
  · subst h
    rw [if_pos rfl]
    show (((BitVec.setWidth 32 (BitVec.ofBool (decide _))).toInt : ℝ) : EReal) = _
    simp
  · rw [if_neg h]
    have : BitVec.ofNat 32 n.val ≠ BitVec.ofNat 32 j.val := by
      intro e
      have e := congrArg BitVec.toNat e
      simp only [BitVec.toNat_ofNat] at e
      exact h (Fin.ext (by omega))
    show (((BitVec.setWidth 32 (BitVec.ofBool (decide _))).toInt : ℝ) : EReal) = _
    simp [this]

theorem diagT_apply (a : FVec Ideal S17x17 .f32) (n j : Fin 17) :
    diagT a (ix2 n j) = if n = j then Ideal.rsqrt (∑ k, a (ix2 n k)) else 0 := by
  unfold diagT
  pointwise
  rw [eyeT_apply]
  split_ifs <;> simp

/-- Counting the padded edges counts the edges: the padding names no node. -/
theorem cntT_apply (e : FVec Ideal S8x32 .f32) (r c : Fin 17 → Fin 17)
    (hr : ∀ l : Fin 32, e (ix2 0 l) = (((if h : l.val < 17 then ((r ⟨l, h⟩).val : ℝ) else -1) : ℝ) : EReal))
    (hc : ∀ l : Fin 32, e (ix2 1 l) = (((if h : l.val < 17 then ((c ⟨l, h⟩).val : ℝ) else -1) : ℝ) : EReal)) (n j : Fin 17) :
    cntT e (ix2 n j) = ((cnt r c n j : ℝ) : EReal) := by
  unfold cntT
  pointwise
  have e1 : ∀ l : Fin 32, hotT (extractStridedSlice S1x32 ![1, 0] e slices_S8x32_o1_0_S1x32) (ix2 n l)
      = if e (ix2 1 l) = ((n.val : ℝ) : EReal) then 1 else 0 := by
    intro l; rw [hotT_apply]; pointwise
  have e0 : ∀ l : Fin 32, hotT (extractStridedSlice S1x32 ![0, 0] e slices_S8x32_o0_0_S1x32) (ix2 j l)
      = if e (ix2 0 l) = ((j.val : ℝ) : EReal) then 1 else 0 := by
    intro l; rw [hotT_apply]; pointwise
  simp only [e1, e0, eyeT_apply, hr, hc, EReal.coe_eq_coe_iff]
  unfold cnt
  rw [EReal.coe_add, coe_sum]
  congr 1
  · refine (Fin.sum_univ_add (a := 17) (b := 15) _).trans ?_
    rw [Finset.sum_eq_zero (s := (Finset.univ : Finset (Fin 15)))]
    · rw [add_zero]
      refine Finset.sum_congr rfl fun l _ => ?_
      have hl : (Fin.castAdd 15 l).val < 17 := l.isLt
      have hn : ∀ q k : Fin 17, ((q.val : ℝ) = (k.val : ℝ)) ↔ q = k := fun q k => by
        rw [Nat.cast_inj, Fin.ext_iff]
      rw [dif_pos hl, dif_pos hl]
      show ((if ((c l).val : ℝ) = (n.val : ℝ) then (1 : EReal) else 0) * if ((r l).val : ℝ) = (j.val : ℝ) then 1 else 0) = _
      simp only [hn]
      by_cases h1 : c l = n <;> by_cases h2 : r l = j <;> simp [h1, h2]
    · intro l _
      have hl : ¬ (Fin.natAdd 17 l).val < 17 := by simp
      rw [dif_neg hl, if_neg, zero_mul]
      have : (0 : ℝ) ≤ (n.val : ℝ) := Nat.cast_nonneg _
      intro h
      linarith
  · split_ifs <;> simp

/-- The normalised adjacency matrix of the padded edges. -/
theorem pay8_apply (e : FVec Ideal S8x32 .f32) (r c : Fin 17 → Fin 17)
    (hr : ∀ l : Fin 32, e (ix2 0 l) = (((if h : l.val < 17 then ((r ⟨l, h⟩).val : ℝ) else -1) : ℝ) : EReal))
    (hc : ∀ l : Fin 32, e (ix2 1 l) = (((if h : l.val < 17 then ((c ⟨l, h⟩).val : ℝ) else -1) : ℝ) : EReal)) (n j : Fin 17) :
    k0_pay8 (F := Ideal) e (ix2 n j) = ((adj r c n j : ℝ) : EReal) := by
  rw [pay8_eq, shapeCast_self]
  have hd : ∀ n j, diagT (cntT e) (ix2 n j) = if n = j then ((dinv r c n : ℝ) : EReal) else 0 := by
    intro n j
    rw [diagT_apply]
    simp only [cntT_apply e r c hr hc]
    have hp := deg_pos r c n
    rw [← coe_sum, show (∑ k, cnt r c n k) = deg r c n from rfl, Ideal.rsqrt_coe, if_neg (not_lt.2 hp.le), if_neg hp.ne']
    rfl
  pointwise
  simp only [hd, cntT_apply e r c hr hc]
  unfold adj
  rw [EReal.coe_mul, EReal.coe_mul, Finset.sum_eq_single j, if_pos rfl, Finset.sum_eq_single n, if_pos rfl]
  · intro k _ hk; rw [if_neg (Ne.symm hk), zero_mul]
  · intro h; exact absurd (Finset.mem_univ _) h
  · intro k _ hk; rw [if_neg hk, mul_zero]
  · intro h; exact absurd (Finset.mem_univ _) h

end Net.Ker
-- ==== Proof.KFold.lean ====
module

public import proofs.«01_k».proof.Proof.KRunA
public import proofs.«01_k».proof.Proof.KRunB
public import proofs.«01_k».proof.Proof.KRunC
public import proofs.«01_k».proof.Proof.KBlocks
public import proofs.«01_k».proof.Proof.KIndex
public import proofs.«01_k».proof.Proof.KAdj

/-! # What the kernel's result array holds

Twenty points of ten steps each: after point `n` the carried arrays are the network's state after `10 (n + 1)` steps, and
the last point writes the head's output. -/

@[expose] public section

set_option maxRecDepth 16384

noncomputable section

namespace Net.Ker

open Cert.KernelIdeal Cert.KernelIdeal.Gen Cert.KernelIdeal.Value
open Idealize.ShloMosaic Idealize.ShloMosaic.TcCoe

variable (m : (ℓ : Loc nD τ sig) → Buf (Elt Ideal) ℓ) (c : Dev nD)

/-- The network's data in the kernel program's arguments. -/
def data : Data :=
  dataOf (m (c, Proc.devRef .tc main_arg0)) (m (c, Proc.devRef .tc main_arg1)) (m (c, Proc.devRef .tc main_arg2))
    (m (c, Proc.devRef .tc main_arg3)) (m (c, Proc.devRef .tc main_arg4)) (m (c, Proc.devRef .tc main_arg5))
    (m (c, Proc.devRef .tc main_arg6)) (m (c, Proc.devRef .tc main_arg7)) (m (c, Proc.devRef .tc main_arg8))
    (m (c, Proc.devRef .tc main_arg9)) (m (c, Proc.devRef .tc main_arg10)) (m (c, Proc.devRef .tc main_arg11))

/-- The weights' blocks at a point. -/
def win (t : Fin cfg0.N) : Win :=
  ⟨iblk m c 1 t, iblk m c 2 t, iblk m c 3 t, iblk m c 4 t, iblk m c 5 t, iblk m c 6 t, iblk m c 7 t, iblk m c 8 t⟩

/-- The carried arrays among a point's results. -/
def carOf (a : FVec Ideal S256x1 .f32 × FVec Ideal S256x256 .f32 × FVec Ideal S256x256 .f32 × FVec Ideal S256x256 .f32) : Car :=
  ⟨a.2.1, a.2.2.1, a.2.2.2⟩

/-- The weights' blocks, as terms over the arguments. -/
def winT : Win :=
  ⟨edgeT (m (c, Proc.devRef .tc main_arg1)), m (c, Proc.devRef .tc main_arg2),
    shapeCast S1x128 (m (c, Proc.devRef .tc main_arg3) : FVec Ideal S128 .f32) shapeCasts_S128_S1x128,
    (truncf .bf16 (m (c, Proc.devRef .tc main_arg4) : FVec Ideal S128x128 .f32) bitsLt_bf16_f32 : FVec Ideal S128x128 .bf16),
    tileT (m (c, Proc.devRef .tc main_arg5)), wihT (m (c, Proc.devRef .tc main_arg6)), whhT (m (c, Proc.devRef .tc main_arg7)),
    biasT (m (c, Proc.devRef .tc main_arg8)) (m (c, Proc.devRef .tc main_arg9))⟩

theorem Win.ext' {a a' b b' d d' e e' f f' g g' h h' i i'} (h1 : a = a') (h2 : b = b') (h3 : d = d') (h4 : e = e') (h5 : f = f')
    (h6 : g = g') (h7 : h = h') (h8 : i = i') : (⟨a, b, d, e, f, g, h, i⟩ : Win) = ⟨a', b', d', e', f', g', h', i'⟩ := by
  subst h1 h2 h3 h4 h5 h6 h7 h8
  rfl

theorem win_eq (t : Fin cfg0.N) : win m c t = winT m c :=
  Win.ext' ((blk_1 m c t).trans (V_edge m c)) ((blk_2 m c t).trans (V_w1 m c)) ((blk_3 m c t).trans (V_b1 m c))
    ((blk_4 m c t).trans (V_w2 m c)) ((blk_5 m c t).trans (V_b2 m c)) ((blk_6 m c t).trans (V_wih m c))
    ((blk_7 m c t).trans (V_whh m c)) ((blk_8 m c t).trans (V_bias m c))

theorem edge_0 (e : IVec S2x17 32) (he : ∀ (k : Fin 2) (l : Fin 17), (e (ix2 k l)).toNat < 17) (l : Fin 32) :
    edgeT e (ix2 0 l) = (((if h : l.val < 17 then ((node (e (ix2 0 ⟨l, h⟩))).val : ℝ) else -1) : ℝ) : EReal) :=
  edgeT_apply e he 0 l

theorem edge_1 (e : IVec S2x17 32) (he : ∀ (k : Fin 2) (l : Fin 17), (e (ix2 k l)).toNat < 17) (l : Fin 32) :
    edgeT e (ix2 1 l) = (((if h : l.val < 17 then ((node (e (ix2 1 ⟨l, h⟩))).val : ℝ) else -1) : ℝ) : EReal) :=
  edgeT_apply e he 1 l

/-- The averaging matrix out of the padded edges. -/
theorem adjT (e : IVec S2x17 32) (he : ∀ (k : Fin 2) (l : Fin 17), (e (ix2 k l)).toNat < 17) (n j : Fin 17) :
    k0_pay8 (F := Ideal) (edgeT e) (ix2 n j) = ((adj (fun l => node (e (ix2 0 l))) (fun l => node (e (ix2 1 l))) n j : ℝ) : EReal) :=
  pay8_apply (edgeT e) (fun l => node (e (ix2 0 l))) (fun l => node (e (ix2 1 l))) (edge_0 e he) (edge_1 e he) n j

theorem fitsT (hE : ∀ (k : Fin 2) (e : Fin 17), ((m (c, Proc.devRef .tc main_arg1) : IVec S2x17 32) (ix2 k e)).toNat < 17) :
    Fits (winT m c) (data m c) := by
  constructor
  · intro n j
    exact adjT (m (c, Proc.devRef .tc main_arg1)) hE n j
  · intro k h
    rfl
  · intro h
    exact b1T_apply _ h
  · intro k h
    rfl
  · intro s k
    exact tileT_apply _ s k
  · intro k g
    exact wihT_apply _ k g
  · intro j g
    exact whhT_apply _ j g
  · intro g
    exact biasT_apply _ _ g

theorem fits (hE : ∀ (k : Fin 2) (e : Fin 17), ((m (c, Proc.devRef .tc main_arg1) : IVec S2x17 32) (ix2 k e)).toNat < 17)
    (t : Fin cfg0.N) : Fits (win m c t) (data m c) := by
  rw [win_eq]
  exact fitsT m c hE

theorem holds (t : Fin cfg0.N) (k : Fin 10) : Holds (slab (iblk m c 0 t) k) (data m c) (10 * t.val + k) := by
  intro n i b
  have ht : t.val < 20 := t.isLt.trans_eq N_0
  have hk := k.isLt
  have hlt : 10 * t.val + k.val < 200 := by omega
  show (iblk m c 0 t : FVec Ideal S10x17x512 .f32) (ix3 k n ⟨i * 256 + b, _⟩) = _
  rw [blk_0 m c t k n _ hlt, V_x, xT_apply]
  show _ = (m (c, Proc.devRef .tc main_arg0) : FVec Ideal S256x200x17x2 .f32) (ix4 b ⟨(10 * t.val + k.val) % 200, _⟩ n i)
  congr 2
  exact Fin.ext (Nat.mod_eq_of_lt hlt).symm

theorem car_A (t : Fin cfg0.N) (acc) (h0 : t.val % 20 = 0) (h1 : ¬t.val % 20 = 19) :
    carOf (stAt0 m c t.val t.isLt acc) = chain (win m c t) (iblk m c 0 t) start 10 := by
  rw [stAt0_A m c t acc h0 h1]
  unfold carOf
  dsimp only
  rw [out_h_A, out_c_A, out_m_A]
  rfl

theorem car_B (t : Fin cfg0.N) (acc) (h0 : ¬t.val % 20 = 0) (h1 : ¬t.val % 20 = 19) :
    carOf (stAt0 m c t.val t.isLt acc) = chain (win m c t) (iblk m c 0 t) (carOf acc) 10 := by
  rw [stAt0_B m c t acc h0 h1]
  unfold carOf
  dsimp only
  rw [out_h_B, out_c_B, out_m_B]
  rfl

theorem res_C (t : Fin cfg0.N) (acc) (h0 : ¬t.val % 20 = 0) (h1 : t.val % 20 = 19) :
    (stAt0 m c t.val t.isLt acc).1
      = k0_pay4 (F := Ideal) (chain (win m c t) (iblk m c 0 t) (carOf acc) 10).m (iblk m c 9 t) (iblk m c 10 t) := by
  rw [stAt0_C m c t acc h0 h1]
  dsimp only
  rw [out_C]
  rfl

variable (hE : ∀ (k : Fin 2) (e : Fin 17), ((m (c, Proc.devRef .tc main_arg1) : IVec S2x17 32) (ix2 k e)).toNat < 17)
  (hD : Fin1 (data m c))

include hE hD

theorem carried : ∀ (n : ℕ) (h : 0 + n < cfg0.N), n < 19 →
    Agree (carOf (Pipeline.accAt (fun n h => stAt0 m c n h junk0) (stAt0 m c) 0 n h)) (data m c) (10 * n + 10)
  | 0, h, _ => by
    rw [Pipeline.accAt_zero]
    have := car_A m c ⟨0, h⟩ junk0 rfl (by show ¬0 % 20 = 19; decide)
    rw [show carOf (stAt0 m c 0 h junk0) = _ from this]
    exact chain_agree (fits m c hE _) hD _ 0 (fun k => holds m c ⟨0, h⟩ k) (start_agree _) 10 le_rfl
  | n + 1, h, hn => by
    rw [Pipeline.accAt_succ]
    have ih := carried n (Nat.lt_of_succ_lt h) (by omega)
    have := car_B m c ⟨0 + (n + 1), h⟩ (Pipeline.accAt (fun n h => stAt0 m c n h junk0) (stAt0 m c) 0 n (Nat.lt_of_succ_lt h))
      (by show ¬(0 + (n + 1)) % 20 = 0; omega) (by show ¬(0 + (n + 1)) % 20 = 19; omega)
    rw [show carOf (stAt0 m c (0 + (n + 1)) h _) = _ from this]
    have e : 10 * (n + 1) = 10 * n + 10 := by omega
    rw [e]
    refine chain_agree (fits m c hE _) hD _ _ (fun k => ?_) ih 10 le_rfl
    have := holds m c ⟨0 + (n + 1), h⟩ k
    rwa [show 10 * (0 + (n + 1)) = 10 * n + 10 by omega] at this

/-- The carried arrays after the last step. -/
theorem last (h : 0 + 19 < cfg0.N) (h' : 0 + 18 < cfg0.N) :
    Agree (chain (win m c ⟨0 + 19, h⟩) (iblk m c 0 ⟨0 + 19, h⟩)
      (carOf (Pipeline.accAt (fun n h => stAt0 m c n h junk0) (stAt0 m c) 0 18 h')) 10) (data m c) 200 := by
  have ih := carried m c hE hD 18 h' (by decide)
  rw [show 10 * 18 + 10 = 190 from rfl] at ih
  refine chain_agree (t := 190) (fits m c hE _) hD _ (fun k => ?_) ih 10 le_rfl
  have := holds m c ⟨0 + 19, h⟩ k
  rwa [show 10 * (0 + 19) = 190 from rfl] at this

omit hE hD in
/-- What the last point writes. -/
theorem written (h : 0 + 19 < cfg0.N) (h' : 0 + 18 < cfg0.N) :
    G11 m c = k0_pay4 (F := Ideal) (chain (win m c ⟨0 + 19, h⟩) (iblk m c 0 ⟨0 + 19, h⟩)
      (carOf (Pipeline.accAt (fun n h => stAt0 m c n h junk0) (stAt0 m c) 0 18 h')) 10).m (iblk m c 9 ⟨0 + 19, h⟩) (iblk m c 10 ⟨0 + 19, h⟩) :=
  (G11_last m c).trans ((congrArg Prod.fst (Pipeline.accAt_succ (fun n h => stAt0 m c n h junk0) (stAt0 m c) 0 18 h)).trans
    (res_C m c ⟨0 + 19, h⟩ _ (by show ¬19 % 20 = 0; decide) (by show 19 % 20 = 19; decide)))

/-- The result array. -/
theorem result (b : Fin 256) : (G11 m c : FVec Ideal S256x1 .f32) (ix2 b 0) = (data m c).out b := by
  have h : 0 + 19 < cfg0.N := by rw [show cfg0.N = 20 from N_0]; decide
  have h' : 0 + 18 < cfg0.N := by rw [show cfg0.N = 20 from N_0]; decide
  have ha := last m c hE hD h h'
  have hq : (iblk m c 10 ⟨0 + 19, h⟩ : FVec Ideal S1x1 .f32) (ix2 0 0) = (data m c).fcb :=
    (congrFun ((blk_10 m c _).trans (V_fcb m c)) (ix2 0 0)).trans (fcbT_apply _)
  have hw : ∀ j, (iblk m c 9 ⟨0 + 19, h⟩ : FVec Ideal S256x1 .f32) (ix2 j 0) = (data m c).fcw j := fun j =>
    (congrFun ((blk_9 m c _).trans (V_fcw m c)) (ix2 j 0)).trans (fcwT_apply _ j)
  refine (congrFun (written m c h h') (ix2 b 0)).trans ?_
  refine (pay4_apply _ _ _ b).trans ?_
  exact congrArg Ideal.logistic (congrArg₂ (· + ·) (Finset.sum_congr rfl fun j _ => congrArg₂ (· * ·) (ha.m b j) (hw j)) hq)

end Net.Ker
-- ==== Proof.RefOps.lean ====
module

public import proofs.«01_k».proof.Proof.Graph
public import proofs.«01_k».proof.ReferenceIdeal
public import Idealize.ShloMosaic.Lib.Pointwise
public import Idealize.ShloMosaic.Lib.Routing.OpsPair

/-! # The reference's gathers and accumulating scatters, read at an index -/

@[expose] public section

set_option maxRecDepth 16384

noncomputable section

namespace Net

open Idealize.ShloMosaic Cert.ReferenceIdeal Idealize.ShloMosaic.Routing

variable [Cert.ReferenceIdeal.Facts]

/-- Sums over the entries of an accumulating scatter into a vector of 17. -/
theorem scatter_nodes (x : FVec Ideal S17 .f32) (idx : IVec S34x1 32) (u : FVec Ideal S34 .f32) (n : Fin 17) :
    Host.scatterAdd scatter_S17_S34x1_S34_n_0_0_1 x idx u (ix1 n)
      = x (ix1 n) + ∑ e : Fin 34, if (idx (ix2 e 0)).toInt = (n.val : Int) then u (ix1 e) else 0 := by
  show _ + ∑ j ∈ Finset.univ.filter (fun j => _), u j = _
  rw [Finset.sum_filter, sum_idx1]
  congr 1
  refine Finset.sum_congr rfl fun e _ => ?_
  have : scatter_S17_S34x1_S34_n_0_0_1.resultIdx? (ix1 e) idx = some (ix1 n) ↔ (idx (ix2 e 0)).toInt = (n.val : Int) := by
    rw [resultIdx?_eq_some]
    have hs : scatter_S17_S34x1_S34_n_0_0_1.start (ix1 e) idx 0 = (idx (ix2 e 0)).toInt := by
      unfold ScatterDims.start
      rw [dif_pos (by exact List.mem_singleton.2 rfl)]
      congr 2
      funext b
      fin_cases b <;> rfl
    have hw : scatter_S17_S34x1_S34_n_0_0_1.window (ix1 e) 0 = 0 := by
      unfold ScatterDims.window
      rfl
    constructor
    · intro h
      have := h 0
      rw [hs, hw] at this
      simpa using this
    · intro h a
      obtain rfl : a = 0 := Subsingleton.elim _ _
      rw [hs, hw]
      simpa using h
  simp only [this]

/-- A gather of 34 entries out of a vector of 17. -/
theorem gather_nodes {α : Type} (x : S17.Idx → α) (idx : IVec S34x1 32) (e : Fin 34) (n : Fin 17)
    (h : (idx (ix2 e 0)).toInt = (n.val : Int)) :
    Host.gather gather_S17_S34x1_S34_n_0_n_n_0_1_1 x idx (ix1 e) = x (ix1 n) := by
  unfold Host.gather
  congr 1
  funext a
  obtain rfl : a = 0 := Subsingleton.elim _ _
  refine Fin.ext ?_
  have hs : gather_S17_S34x1_S34_n_0_n_n_0_1_1.start (ix1 e) idx 0 = min (idx (ix2 e 0)).toInt.toNat 16 := by
    unfold GatherDims.start
    rw [dif_pos (by exact List.mem_singleton.2 rfl)]
    congr 4
    funext b
    fin_cases b <;> rfl
  show gather_S17_S34x1_S34_n_0_n_n_0_1_1.start (ix1 e) idx 0 + 0 + 0 = n.val
  rw [hs, h]
  have := n.isLt
  omega

/-- A gather of 34 rows along the node axis. -/
theorem gather_rows {α : Type} (x : S256x200x17x128.Idx → α) (idx : IVec S34x1 32) (b : Fin 256) (t : Fin 200) (e : Fin 34)
    (k : Fin 128) (n : Fin 17) (h : (idx (ix2 e 0)).toInt = (n.val : Int)) :
    Host.gather gather_S256x200x17x128_S34x1_S256x200x34x128_013_2_n_n_2_1_2562001128 x idx (ix4 b t e k) = x (ix4 b t n k) := by
  unfold Host.gather
  congr 1
  have hs : gather_S256x200x17x128_S34x1_S256x200x34x128_013_2_n_n_2_1_2562001128.start (ix4 b t e k) idx 2
      = min (idx (ix2 e 0)).toInt.toNat 16 := by
    unfold GatherDims.start
    rw [dif_pos (by exact List.mem_singleton.2 rfl)]
    congr 4
    funext b
    fin_cases b <;> rfl
  funext a
  refine Fin.ext ?_
  fin_cases a
  · exact Nat.zero_add _
  · exact Nat.zero_add _
  · show gather_S256x200x17x128_S34x1_S256x200x34x128_013_2_n_n_2_1_2562001128.start (ix4 b t e k) idx 2 + 0 + 0 = n.val
    rw [hs, h]
    have := n.isLt
    omega
  · exact Nat.zero_add _

/-- Sums over the entries of an accumulating scatter along the node axis. -/
theorem scatter_rows (x : FVec Ideal S256x200x17x128 .f32) (idx : IVec S34x1 32) (u : FVec Ideal S256x200x34x128 .f32)
    (b : Fin 256) (t : Fin 200) (n : Fin 17) (k : Fin 128) :
    Host.scatterAdd scatter_S256x200x17x128_S34x1_S256x200x34x128_013_2_2_1 x idx u (ix4 b t n k)
      = x (ix4 b t n k) + ∑ e : Fin 34, if (idx (ix2 e 0)).toInt = (n.val : Int) then u (ix4 b t e k) else 0 := by
  show _ + ∑ j ∈ Finset.univ.filter (fun j => _), u j = _
  rw [Finset.sum_filter, sum_idx4]
  congr 1
  have key : ∀ (b' : Fin 256) (t' : Fin 200) (e : Fin 34) (k' : Fin 128),
      scatter_S256x200x17x128_S34x1_S256x200x34x128_013_2_2_1.resultIdx? (ix4 b' t' e k') idx = some (ix4 b t n k)
        ↔ b' = b ∧ t' = t ∧ (idx (ix2 e 0)).toInt = (n.val : Int) ∧ k' = k := by
    intro b' t' e k'
    rw [resultIdx?_eq_some]
    have hs : scatter_S256x200x17x128_S34x1_S256x200x34x128_013_2_2_1.start (ix4 b' t' e k') idx 2 = (idx (ix2 e 0)).toInt := by
      unfold ScatterDims.start
      rw [dif_pos (by exact List.mem_singleton.2 rfl)]
      congr 2
      funext b
      fin_cases b <;> rfl
    have h0 : scatter_S256x200x17x128_S34x1_S256x200x34x128_013_2_2_1.start (ix4 b' t' e k') idx 0 = 0 := rfl
    have h1 : scatter_S256x200x17x128_S34x1_S256x200x34x128_013_2_2_1.start (ix4 b' t' e k') idx 1 = 0 := rfl
    have h3 : scatter_S256x200x17x128_S34x1_S256x200x34x128_013_2_2_1.start (ix4 b' t' e k') idx 3 = 0 := rfl
    have w0 : scatter_S256x200x17x128_S34x1_S256x200x34x128_013_2_2_1.window (ix4 b' t' e k') 0 = b'.val := rfl
    have w1 : scatter_S256x200x17x128_S34x1_S256x200x34x128_013_2_2_1.window (ix4 b' t' e k') 1 = t'.val := rfl
    have w2 : scatter_S256x200x17x128_S34x1_S256x200x34x128_013_2_2_1.window (ix4 b' t' e k') 2 = 0 := rfl
    have w3 : scatter_S256x200x17x128_S34x1_S256x200x34x128_013_2_2_1.window (ix4 b' t' e k') 3 = k'.val := rfl
    constructor
    · intro h
      have e0 := h 0
      have e1 := h 1
      have e2 := h 2
      have e3 := h 3
      rw [h0, w0] at e0
      rw [h1, w1] at e1
      rw [hs, w2] at e2
      rw [h3, w3] at e3
      have e0' : (0 : Int) + (b'.val : Int) = (b.val : Int) := e0
      have e1' : (0 : Int) + (t'.val : Int) = (t.val : Int) := e1
      have e2' : (idx (ix2 e 0)).toInt + ((0 : Nat) : Int) = (n.val : Int) := e2
      have e3' : (0 : Int) + (k'.val : Int) = (k.val : Int) := e3
      refine ⟨Fin.ext (by omega), Fin.ext (by omega), by omega, Fin.ext (by omega)⟩
    · rintro ⟨rfl, rfl, h, rfl⟩ a
      fin_cases a
      · exact Int.zero_add _
      · exact Int.zero_add _
      · show scatter_S256x200x17x128_S34x1_S256x200x34x128_013_2_2_1.start (ix4 b' t' e k') idx 2 + ((0 : Nat) : Int) = (n.val : Int)
        rw [hs, h]; simp
      · exact Int.zero_add _
  simp only [key]
  rw [Finset.sum_eq_single b, Finset.sum_eq_single t]
  · refine Finset.sum_congr rfl fun e _ => ?_
    rw [Finset.sum_eq_single k]
    · simp
    · intro k' _ hk; simp [hk]
    · simp
  · intro t' _ ht; simp [ht]
  · simp
  · intro b' _ hb; simp [hb]
  · simp

end Net
-- ==== Proof.RefTerms.lean ====
module

public import proofs.«01_k».proof.Proof.RefOps
public import proofs.«01_k».proof.Proof.Gen.ReferenceIdeal.Run
public import Idealize.ShloMosaic.Lib.StableHlo.RunRead

/-! # The reference's arrays before its loop, as terms of the arguments -/

@[expose] public section

set_option maxRecDepth 16384

noncomputable section

namespace Net.Ref

open Cert.ReferenceIdeal Cert.ReferenceIdeal.Gen Cert.ReferenceIdeal.Value
open Idealize.ShloMosaic Idealize.ShloMosaic.TcCoe Idealize.ShloMosaic.StableHlo

/-- The sources in the edge list. -/
def rowOf (e : IVec S2x17 32) : IVec S17 32 :=
  shapeCast S17 (extractStridedSlice S1x17 ![0, 0] e slices_S2x17_S1x17_0_0) shapeCasts_S1x17_S17

/-- The targets in the edge list. -/
def colOf (e : IVec S2x17 32) : IVec S17 32 :=
  shapeCast S17 (extractStridedSlice S1x17 ![1, 0] e slices_S2x17_S1x17_1_0) shapeCasts_S1x17_S17

/-- Ends of edges, then every node. -/
def loopsT (v : IVec S17 32) : IVec S34 32 :=
  concatenate S34 0 [⟨S17, v⟩, ⟨S17, iotaInDim S17 32 0⟩] concatenates_S17_S17_S34_d0

/-- Indices with the negative ones wrapped around, as a column. -/
def wrapW (v : IVec S34 32) : IVec S34x1 32 :=
  broadcastInDim S34x1 ![0] bcast_S34_S34x1_0
    (select (cmpi .slt v (broadcastInDim S34 ![] bcast_S_S34 (constantI S_ 32 0#32)))
      (addi v (broadcastInDim S34 ![] bcast_S_S34 (constantI S_ 32 17#32))) v)

/-- The degrees. -/
def degT (c : IVec S34 32) : FVec Ideal S17 .f32 :=
  Host.scatterAdd scatter_S17_S34x1_S34_n_0_0_1 (broadcastInDim S17 ![] bcast_S_S17 (constant S_ .f32 0x00000000#32)) (wrapW c)
    (broadcastInDim S34 ![] bcast_S_S34 (constant S_ .f32 0x3F800000#32))

/-- One over their roots. -/
def dinvT (c : IVec S34 32) : FVec Ideal S17 .f32 :=
  select (cmpf .ogt (degT c) (broadcastInDim S17 ![] bcast_S_S17 (constant S_ .f32 0x00000000#32)))
    (Host.powf (degT c) (broadcastInDim S17 ![] bcast_S_S17 (constant S_ .f32 0xBF000000#32)))
    (broadcastInDim S17 ![] bcast_S_S17 (id (constant S_ .f32 0x00000000#32)))

/-- The normalisation of each edge, from the inverse roots of the degrees. -/
def normT (r c : IVec S34 32) (d : FVec Ideal S17 .f32) : FVec Ideal S34 .f32 :=
  mulf (Host.gather gather_S17_S34x1_S34_n_0_n_n_0_1_1 d (wrapW r))
    (Host.gather gather_S17_S34x1_S34_n_0_n_n_0_1_1 d (wrapW c))

/-- One graph layer on transformed features `y`, before its nonlinearity. -/
def convT (r c : IVec S34 32) (d : FVec Ideal S17 .f32) (y : FVec Ideal S256x200x17x128 .f32) (b : FVec Ideal S128 .f32) :
    FVec Ideal S256x200x17x128 .f32 :=
    addf
      (Host.scatterAdd scatter_S256x200x17x128_S34x1_S256x200x34x128_013_2_2_1
        (broadcastInDim S256x200x17x128 ![1, 2, 3] bcast_S200x17x128_S256x200x17x128_1_2_3
          (broadcastInDim S200x17x128 ![1, 2] bcast_S17x128_S200x17x128_1_2
            (broadcastInDim S17x128 ![] bcast_S_S17x128 (constant S_ .f32 0x00000000#32))))
        (wrapW c)
        (mulf
          (broadcastInDim S256x200x34x128 ![0, 1, 2, 3] bcast_S1x1x34x1_S256x200x34x128_0_1_2_3
            (broadcastInDim S1x1x34x1 ![1, 2, 3] bcast_S1x34x1_S1x1x34x1_1_2_3
              (broadcastInDim S1x34x1 ![1, 2] bcast_S34x1_S1x34x1_1_2
                (broadcastInDim S34x1 ![0] bcast_S34_S34x1_0 (normT r c d)))))
          (Host.gather gather_S256x200x17x128_S34x1_S256x200x34x128_013_2_n_n_2_1_2562001128 y (wrapW r))))
      (broadcastInDim S256x200x17x128 ![0, 1, 2, 3] bcast_S1x1x1x128_S256x200x17x128_0_1_2_3
        (broadcastInDim S1x1x1x128 ![1, 2, 3] bcast_S1x1x128_S1x1x1x128_1_2_3
          (broadcastInDim S1x1x128 ![1, 2] bcast_S1x128_S1x1x128_1_2
            (broadcastInDim S1x128 ![1] bcast_S128_S1x128_1 b))))

/-- The nonlinearity. -/
def reluT (y : FVec Ideal S256x200x17x128 .f32) : FVec Ideal S256x200x17x128 .f32 :=
  maximumf y (broadcastInDim S256x200x17x128 ![] bcast_S_S256x200x17x128 (constant S_ .f32 0x00000000#32))

/-- The features of the first layer, transformed. -/
def lin1T (x : FVec Ideal S256x200x17x2 .f32) (w : FVec Ideal S2x128 .f32) : FVec Ideal S256x200x17x128 .f32 :=
  Host.dotGeneral dot_S256x200x17x2_S2x128_S256x200x17x128_3_0_012_1_n_n none x w

/-- The features of the second layer, transformed. -/
def lin2T (x : FVec Ideal S256x200x17x128 .f32) (w : FVec Ideal S128x128 .f32) : FVec Ideal S256x200x17x128 .f32 :=
  Host.dotGeneral dot_S256x200x17x128_S128x128_S256x200x17x128_3_0_012_1_n_n none x w

/-- The mean over the nodes, time first. -/
def meanT (y : FVec Ideal S256x200x17x128 .f32) : FVec Ideal S200x256x128 .f32 :=
  transpose S200x256x128 [1, 0, 2]
    (Host.divf (Host.reduceAdd y (constant S_ .f32 0x00000000#32) reducesTo_S256x200x17x128_S256x200x128_d2 h_S_)
      (broadcastInDim S256x200x128 ![] bcast_S_S256x200x128 (constant S_ .f32 0x41880000#32)))
    transposes_S256x200x128_S200x256x128_1_0_2

/-! ## Each stretch of operations, at the buffers read later -/

theorem s0_v1 (V : Valuation τ sig (Elt Ideal)) :
    after hostOps0 V (Proc.devRef .tc main_v1) = rowOf (V (Proc.devRef .tc main_arg1)) := by
  after_reads_simp; rfl

theorem s0_v3 (V : Valuation τ sig (Elt Ideal)) :
    after hostOps0 V (Proc.devRef .tc main_v3) = colOf (V (Proc.devRef .tc main_arg1)) := by
  after_reads_simp; rfl

theorem s0_v5 (V : Valuation τ sig (Elt Ideal)) :
    after hostOps0 V (Proc.devRef .tc main_v5) = loopsT (rowOf (V (Proc.devRef .tc main_arg1))) := by
  after_reads_simp; rfl

theorem s0_v6 (V : Valuation τ sig (Elt Ideal)) :
    after hostOps0 V (Proc.devRef .tc main_v6) = loopsT (colOf (V (Proc.devRef .tc main_arg1))) := by
  after_reads_simp; rfl

theorem s0_v17 (V : Valuation τ sig (Elt Ideal)) :
    after hostOps0 V (Proc.devRef .tc main_v17) = cmpf .ogt (degT (loopsT (colOf (V (Proc.devRef .tc main_arg1))))) (broadcastInDim S17 ![] bcast_S_S17 (constant S_ .f32 0x00000000#32)) := by
  after_reads_simp; rfl

theorem s0_v19 (V : Valuation τ sig (Elt Ideal)) :
    after hostOps0 V (Proc.devRef .tc main_v19) = Host.powf (degT (loopsT (colOf (V (Proc.devRef .tc main_arg1))))) (broadcastInDim S17 ![] bcast_S_S17 (constant S_ .f32 0xBF000000#32)) := by
  after_reads_simp; rfl

theorem s0_cst (V : Valuation τ sig (Elt Ideal)) :
    after hostOps0 V (Proc.devRef .tc main_cst_4) = (constant S_ .f32 0x00000000#32 : FVec Ideal S_ .f32) := by
  after_reads_simp

theorem s1_v20 (V : Valuation τ sig (Elt Ideal)) :
    after hostOps0_1 V (Proc.devRef .tc main_v20) = select (V (Proc.devRef .tc main_v17)) (V (Proc.devRef .tc main_v19)) (broadcastInDim S17 ![] bcast_S_S17 (id (V (Proc.devRef .tc main_cst_4)))) := by
  after_reads_simp; rfl

theorem s2_v63 (V : Valuation τ sig (Elt Ideal)) :
    after hostOps0_2 V (Proc.devRef .tc main_v63) = convT (V (Proc.devRef .tc main_v5)) (V (Proc.devRef .tc main_v6)) (V (Proc.devRef .tc main_v20)) (lin1T (V (Proc.devRef .tc main_arg0)) (V (Proc.devRef .tc main_arg2))) (V (Proc.devRef .tc main_arg3)) := by
  after_reads_simp; rfl

theorem s3_v64 (V : Valuation τ sig (Elt Ideal)) :
    after hostOps0_3 V (Proc.devRef .tc main_v64) = reluT (V (Proc.devRef .tc main_v63)) := by
  after_reads_simp; rfl

theorem s4_v66 (V : Valuation τ sig (Elt Ideal)) :
    after hostOps0_4 V (Proc.devRef .tc main_v66) = loopsT (V (Proc.devRef .tc main_v1)) := by
  after_reads_simp; rfl

theorem s4_v67 (V : Valuation τ sig (Elt Ideal)) :
    after hostOps0_4 V (Proc.devRef .tc main_v67) = loopsT (V (Proc.devRef .tc main_v3)) := by
  after_reads_simp; rfl

theorem s4_v78 (V : Valuation τ sig (Elt Ideal)) :
    after hostOps0_4 V (Proc.devRef .tc main_v78) = cmpf .ogt (degT (loopsT (V (Proc.devRef .tc main_v3)))) (broadcastInDim S17 ![] bcast_S_S17 (constant S_ .f32 0x00000000#32)) := by
  after_reads_simp; rfl

theorem s4_v80 (V : Valuation τ sig (Elt Ideal)) :
    after hostOps0_4 V (Proc.devRef .tc main_v80) = Host.powf (degT (loopsT (V (Proc.devRef .tc main_v3)))) (broadcastInDim S17 ![] bcast_S_S17 (constant S_ .f32 0xBF000000#32)) := by
  after_reads_simp; rfl

theorem s4_cst (V : Valuation τ sig (Elt Ideal)) :
    after hostOps0_4 V (Proc.devRef .tc main_cst_20) = (constant S_ .f32 0x00000000#32 : FVec Ideal S_ .f32) := by
  after_reads_simp

theorem s5_v81 (V : Valuation τ sig (Elt Ideal)) :
    after hostOps0_5 V (Proc.devRef .tc main_v81) = select (V (Proc.devRef .tc main_v78)) (V (Proc.devRef .tc main_v80)) (broadcastInDim S17 ![] bcast_S_S17 (id (V (Proc.devRef .tc main_cst_20)))) := by
  after_reads_simp; rfl

theorem s6_v124 (V : Valuation τ sig (Elt Ideal)) :
    after hostOps0_6 V (Proc.devRef .tc main_v124) = convT (V (Proc.devRef .tc main_v66)) (V (Proc.devRef .tc main_v67)) (V (Proc.devRef .tc main_v81)) (lin2T (V (Proc.devRef .tc main_v64)) (V (Proc.devRef .tc main_arg4))) (V (Proc.devRef .tc main_arg5)) := by
  after_reads_simp; rfl

theorem s7_v125 (V : Valuation τ sig (Elt Ideal)) :
    after hostOps0_7 V (Proc.devRef .tc main_v125) = reluT (V (Proc.devRef .tc main_v124)) := by
  after_reads_simp; rfl

theorem s8_0 (V : Valuation τ sig (Elt Ideal)) :
    after hostOps0_8 V (Proc.devRef .tc main_v135_0) = meanT (V (Proc.devRef .tc main_v125)) := by
  after_reads_simp; rfl

theorem s8_1 (V : Valuation τ sig (Elt Ideal)) :
    after hostOps0_8 V (Proc.devRef .tc main_v135_1) = (V (Proc.devRef .tc main_arg6)) := by
  after_reads_simp; rfl

theorem s8_2 (V : Valuation τ sig (Elt Ideal)) :
    after hostOps0_8 V (Proc.devRef .tc main_v135_2) = (V (Proc.devRef .tc main_arg8)) := by
  after_reads_simp; rfl

theorem s8_3 (V : Valuation τ sig (Elt Ideal)) :
    after hostOps0_8 V (Proc.devRef .tc main_v135_3) = (V (Proc.devRef .tc main_arg7)) := by
  after_reads_simp; rfl

theorem s8_4 (V : Valuation τ sig (Elt Ideal)) :
    after hostOps0_8 V (Proc.devRef .tc main_v135_4) = (V (Proc.devRef .tc main_arg9)) := by
  after_reads_simp; rfl

theorem s8_6 (V : Valuation τ sig (Elt Ideal)) :
    after hostOps0_8 V (Proc.devRef .tc main_v135_6) = (broadcastInDim S256x256 ![1] bcast_S256_S256x256_1 (broadcastInDim S256 ![] bcast_S_S256 (constant S_ .f32 0x00000000#32)) : FVec Ideal S256x256 .f32) := by
  after_reads_simp; rfl

theorem s8_7 (V : Valuation τ sig (Elt Ideal)) :
    after hostOps0_8 V (Proc.devRef .tc main_v135_7) = (broadcastInDim S256x256 ![1] bcast_S256_S256x256_1 (broadcastInDim S256 ![] bcast_S_S256 (constant S_ .f32 0x00000000#32)) : FVec Ideal S256x256 .f32) := by
  after_reads_simp; rfl

theorem k_v1_1 (V : Valuation τ sig (Elt Ideal)) :
    after hostOps0_1 V (Proc.devRef .tc main_v1) = V (Proc.devRef .tc main_v1) :=
  after_of_writes_sub hostOps0_1 V hostOps0_1_writes (by decide +kernel)

theorem k_v1_2 (V : Valuation τ sig (Elt Ideal)) :
    after hostOps0_2 V (Proc.devRef .tc main_v1) = V (Proc.devRef .tc main_v1) :=
  after_of_writes_sub hostOps0_2 V hostOps0_2_writes (by decide +kernel)

theorem k_v1_3 (V : Valuation τ sig (Elt Ideal)) :
    after hostOps0_3 V (Proc.devRef .tc main_v1) = V (Proc.devRef .tc main_v1) :=
  after_of_writes_sub hostOps0_3 V hostOps0_3_writes (by decide +kernel)

theorem k_v3_1 (V : Valuation τ sig (Elt Ideal)) :
    after hostOps0_1 V (Proc.devRef .tc main_v3) = V (Proc.devRef .tc main_v3) :=
  after_of_writes_sub hostOps0_1 V hostOps0_1_writes (by decide +kernel)

theorem k_v3_2 (V : Valuation τ sig (Elt Ideal)) :
    after hostOps0_2 V (Proc.devRef .tc main_v3) = V (Proc.devRef .tc main_v3) :=
  after_of_writes_sub hostOps0_2 V hostOps0_2_writes (by decide +kernel)

theorem k_v3_3 (V : Valuation τ sig (Elt Ideal)) :
    after hostOps0_3 V (Proc.devRef .tc main_v3) = V (Proc.devRef .tc main_v3) :=
  after_of_writes_sub hostOps0_3 V hostOps0_3_writes (by decide +kernel)

theorem k_v5_1 (V : Valuation τ sig (Elt Ideal)) :
    after hostOps0_1 V (Proc.devRef .tc main_v5) = V (Proc.devRef .tc main_v5) :=
  after_of_writes_sub hostOps0_1 V hostOps0_1_writes (by decide +kernel)

theorem k_v6_1 (V : Valuation τ sig (Elt Ideal)) :
    after hostOps0_1 V (Proc.devRef .tc main_v6) = V (Proc.devRef .tc main_v6) :=
  after_of_writes_sub hostOps0_1 V hostOps0_1_writes (by decide +kernel)

theorem k_v64_4 (V : Valuation τ sig (Elt Ideal)) :
    after hostOps0_4 V (Proc.devRef .tc main_v64) = V (Proc.devRef .tc main_v64) :=
  after_of_writes_sub hostOps0_4 V hostOps0_4_writes (by decide +kernel)

theorem k_v64_5 (V : Valuation τ sig (Elt Ideal)) :
    after hostOps0_5 V (Proc.devRef .tc main_v64) = V (Proc.devRef .tc main_v64) :=
  after_of_writes_sub hostOps0_5 V hostOps0_5_writes (by decide +kernel)

theorem k_v66_5 (V : Valuation τ sig (Elt Ideal)) :
    after hostOps0_5 V (Proc.devRef .tc main_v66) = V (Proc.devRef .tc main_v66) :=
  after_of_writes_sub hostOps0_5 V hostOps0_5_writes (by decide +kernel)

theorem k_v67_5 (V : Valuation τ sig (Elt Ideal)) :
    after hostOps0_5 V (Proc.devRef .tc main_v67) = V (Proc.devRef .tc main_v67) :=
  after_of_writes_sub hostOps0_5 V hostOps0_5_writes (by decide +kernel)

variable (m : (ℓ : Loc nD τ sig) → Buf (Elt Ideal) ℓ) (c : Dev nD)

/-- The averaged node features at the loop's entry. -/
theorem entry_0 : entryContents preI m c (Proc.devRef .tc main_v135_0)
    = (let r := loopsT (rowOf (m (c, Proc.devRef .tc main_arg1)))
       let k := loopsT (colOf (m (c, Proc.devRef .tc main_arg1)))
       let h1 := reluT (convT r k (dinvT k) (lin1T (m (c, Proc.devRef .tc main_arg0)) (m (c, Proc.devRef .tc main_arg2))) (m (c, Proc.devRef .tc main_arg3)))
       meanT (reluT (convT r k (dinvT k) (lin2T h1 (m (c, Proc.devRef .tc main_arg4))) (m (c, Proc.devRef .tc main_arg5))))) := by
  simp only [entryContents, afterL_cons, afterL_nil]
  rw [s8_0, s7_v125, s6_v124, s5_v81, k_v66_5, k_v67_5, k_v64_5, s4_v78, s4_v80, s4_cst, s4_v66, s4_v67, k_v64_4, s3_v64, k_v1_3, k_v3_3, s2_v63, k_v1_2,
    k_v3_2, s1_v20, k_v1_1, k_v3_1, k_v5_1, k_v6_1, s0_v1, s0_v3, s0_v5, s0_v6, s0_v17, s0_v19, s0_cst]
  simp only [keep_main_arg0_hostOps0, keep_main_arg0_hostOps0_1, keep_main_arg2_hostOps0, keep_main_arg2_hostOps0_1, keep_main_arg3_hostOps0, keep_main_arg3_hostOps0_1, keep_main_arg4_hostOps0, keep_main_arg4_hostOps0_1, keep_main_arg4_hostOps0_2, keep_main_arg4_hostOps0_3, keep_main_arg4_hostOps0_4, keep_main_arg4_hostOps0_5, keep_main_arg5_hostOps0, keep_main_arg5_hostOps0_1, keep_main_arg5_hostOps0_2, keep_main_arg5_hostOps0_3, keep_main_arg5_hostOps0_4, keep_main_arg5_hostOps0_5]
  rfl

theorem entry_1 : entryContents preI m c (Proc.devRef .tc main_v135_1) = m (c, Proc.devRef .tc main_arg6) := by
  simp only [entryContents, afterL_cons, afterL_nil]
  rw [s8_1, keep_main_arg6_hostOps0_7, keep_main_arg6_hostOps0_6, keep_main_arg6_hostOps0_5, keep_main_arg6_hostOps0_4, keep_main_arg6_hostOps0_3, keep_main_arg6_hostOps0_2, keep_main_arg6_hostOps0_1, keep_main_arg6_hostOps0]

theorem entry_2 : entryContents preI m c (Proc.devRef .tc main_v135_2) = m (c, Proc.devRef .tc main_arg8) := by
  simp only [entryContents, afterL_cons, afterL_nil]
  rw [s8_2, keep_main_arg8_hostOps0_7, keep_main_arg8_hostOps0_6, keep_main_arg8_hostOps0_5, keep_main_arg8_hostOps0_4, keep_main_arg8_hostOps0_3, keep_main_arg8_hostOps0_2, keep_main_arg8_hostOps0_1, keep_main_arg8_hostOps0]

theorem entry_3 : entryContents preI m c (Proc.devRef .tc main_v135_3) = m (c, Proc.devRef .tc main_arg7) := by
  simp only [entryContents, afterL_cons, afterL_nil]
  rw [s8_3, keep_main_arg7_hostOps0_7, keep_main_arg7_hostOps0_6, keep_main_arg7_hostOps0_5, keep_main_arg7_hostOps0_4, keep_main_arg7_hostOps0_3, keep_main_arg7_hostOps0_2, keep_main_arg7_hostOps0_1, keep_main_arg7_hostOps0]

theorem entry_4 : entryContents preI m c (Proc.devRef .tc main_v135_4) = m (c, Proc.devRef .tc main_arg9) := by
  simp only [entryContents, afterL_cons, afterL_nil]
  rw [s8_4, keep_main_arg9_hostOps0_7, keep_main_arg9_hostOps0_6, keep_main_arg9_hostOps0_5, keep_main_arg9_hostOps0_4, keep_main_arg9_hostOps0_3, keep_main_arg9_hostOps0_2, keep_main_arg9_hostOps0_1, keep_main_arg9_hostOps0]

theorem entry_6 : entryContents preI m c (Proc.devRef .tc main_v135_6) = fun _ => (0 : EReal) := by
  simp only [entryContents, afterL_cons, afterL_nil]
  rw [s8_6]
  funext i
  idx_vars i
  pointwise

theorem entry_7 : entryContents preI m c (Proc.devRef .tc main_v135_7) = fun _ => (0 : EReal) := by
  simp only [entryContents, afterL_cons, afterL_nil]
  rw [s8_7]
  funext i
  idx_vars i
  pointwise

end Net.Ref
-- ==== Proof.RefEntry.lean ====
module

public import proofs.«01_k».proof.Proof.RefTerms

/-! # The reference's arrays before its loop, at an index -/

@[expose] public section

set_option maxRecDepth 16384

noncomputable section

namespace Net.Ref

open Cert.ReferenceIdeal Cert.ReferenceIdeal.Gen Cert.ReferenceIdeal.Value
open Idealize.ShloMosaic Idealize.ShloMosaic.TcCoe Idealize.ShloMosaic.StableHlo

/-- The ends of the 34 edges. -/
def ends (f : Fin 17 → Fin 17) (e : Fin 34) : Fin 17 :=
  if h : e.val < 17 then f ⟨e.val, h⟩ else ⟨e.val - 17, by omega⟩

theorem sum_ends {M : Type} [AddCommMonoid M] (f : Fin 34 → M) :
    ∑ e, f e = (∑ e : Fin 17, f ⟨e, by omega⟩) + ∑ e : Fin 17, f ⟨17 + e, by omega⟩ :=
  Fin.sum_univ_add (a := 17) (b := 17) f

theorem ends_left (f : Fin 17 → Fin 17) (e : Fin 17) : ends f ⟨e, by omega⟩ = f e := by
  unfold ends; rw [dif_pos e.isLt]

theorem ends_right (f : Fin 17 → Fin 17) (e : Fin 17) : ends f ⟨17 + e, by omega⟩ = e := by
  unfold ends; rw [dif_neg (by simp)]
  exact Fin.ext (by simp)

theorem neg_half : Ideal.ofBits .f32 0xBF000000#32 = ((-(1 / 2) : ℝ) : EReal) := by
  simp [Ideal.ofBits, Ideal.ieee, -EReal.coe_mul]; norm_num

theorem seventeen : Ideal.ofBits .f32 0x41880000#32 = ((17 : ℝ) : EReal) := by
  simp [Ideal.ofBits, Ideal.ieee, -EReal.coe_mul]; norm_num

variable {v : IVec S17 32}

theorem toInt_of_lt {w : BitVec 32} (h : w.toNat < 17) : w.toInt = ((node w).val : Int) := by
  unfold node
  rw [BitVec.toInt_eq_toNat_of_lt (by omega)]
  simp only [Nat.mod_eq_of_lt h]

theorem loops_lt (hv : ∀ e, (v (ix1 e)).toNat < 17) (e : Fin 34) :
    (loopsT v (ix1 e)).toNat < 17 ∧ node (loopsT v (ix1 e)) = ends (fun e => node (v (ix1 e))) e := by
  unfold loopsT ends
  pointwise
  split
  · next h => exact ⟨hv _, rfl⟩
  · next h =>
    have e1 : (BitVec.ofNat 32 (e.val - 17)).toNat = e.val - 17 := by
      rw [BitVec.toNat_ofNat]; exact Nat.mod_eq_of_lt (by omega)
    refine ⟨by rw [e1]; omega, Fin.ext ?_⟩
    show (BitVec.ofNat 32 (e.val - 17)).toNat % 17 = e.val - 17
    rw [e1]; exact Nat.mod_eq_of_lt (by omega)

theorem wrap_apply (u : IVec S34 32) (e : Fin 34) (h : (u (ix1 e)).toNat < 17) : wrapW u (ix2 e 0) = u (ix1 e) := by
  unfold wrapW
  pointwise
  exact Routing.wrap_of_lt _ _ (by omega)

theorem wrap_loops (hv : ∀ e, (v (ix1 e)).toNat < 17) (e : Fin 34) :
    (wrapW (loopsT v) (ix2 e 0)).toInt = ((ends (fun e => node (v (ix1 e))) e).val : Int) := by
  obtain ⟨h1, h2⟩ := loops_lt hv e
  rw [wrap_apply _ _ h1, toInt_of_lt h1, h2]

theorem degT_apply (hv : ∀ e, (v (ix1 e)).toNat < 17) (r : Fin 17 → Fin 17) (n : Fin 17) :
    degT (loopsT v) (ix1 n) = ((deg r (fun e => node (v (ix1 e))) n : ℝ) : EReal) := by
  unfold degT
  rw [scatter_nodes]
  simp only [wrap_loops hv]
  pointwise
  rw [sum_ends, deg_eq]
  simp only [ends_left, ends_right, Nat.cast_inj, Fin.val_inj]
  rw [EReal.coe_add, coe_sum]
  congr 1
  · refine Finset.sum_congr rfl fun e _ => ?_
    split <;> simp
  · simp

theorem dinvT_apply (hv : ∀ e, (v (ix1 e)).toNat < 17) (r : Fin 17 → Fin 17) (n : Fin 17) :
    dinvT (loopsT v) (ix1 n) = ((dinv r (fun e => node (v (ix1 e))) n : ℝ) : EReal) := by
  unfold dinvT
  pointwise
  rw [degT_apply hv r n, if_pos (EReal.coe_pos.2 (deg_pos _ _ n)), neg_half]
  unfold dinv
  refine congrArg (fun q : ℝ => (q : EReal)) ?_
  show (deg r (fun e => node (v (ix1 e))) n : ℝ) ^ (-(1 / 2) : ℝ) = _
  rw [Real.rpow_neg (deg_pos _ _ n).le, Real.sqrt_eq_rpow]

theorem normT_apply {u : IVec S17 32} (hu : ∀ e, (u (ix1 e)).toNat < 17) (hv : ∀ e, (v (ix1 e)).toNat < 17) (d : FVec Ideal S17 .f32)
    (e : Fin 34) : normT (loopsT u) (loopsT v) d (ix1 e)
      = d (ix1 (ends (fun e => node (u (ix1 e))) e)) * d (ix1 (ends (fun e => node (v (ix1 e))) e)) := by
  unfold normT
  pointwise
  rw [gather_nodes _ _ _ _ (wrap_loops hu e), gather_nodes _ _ _ _ (wrap_loops hv e)]

theorem convT_apply {u : IVec S17 32} (hu : ∀ e, (u (ix1 e)).toNat < 17) (hv : ∀ e, (v (ix1 e)).toNat < 17)
    (y : FVec Ideal S256x200x17x128 .f32) (bias : FVec Ideal S128 .f32) (b : Fin 256) (t : Fin 200) (n : Fin 17) (k : Fin 128) :
    convT (loopsT u) (loopsT v) (dinvT (loopsT v)) y bias (ix4 b t n k)
      = (∑ j, ((adj (fun e => node (u (ix1 e))) (fun e => node (v (ix1 e))) n j : ℝ) : EReal) * y (ix4 b t j k)) + bias (ix1 k) := by
  rw [← sum_edges]
  unfold convT
  rw [addf_apply, scatter_rows]
  simp only [wrap_loops hv]
  pointwise
  rw [sum_ends]
  simp only [normT_apply hu hv, gather_rows _ _ _ _ _ _ _ (wrap_loops hu _), ends_left, ends_right, Nat.cast_inj, Fin.val_inj,
    dinvT_apply hv (fun e => node (u (ix1 e)))]

theorem reluT_apply (y : FVec Ideal S256x200x17x128 .f32) (i : S256x200x17x128.Idx) : reluT y i = max (y i) 0 := by
  unfold reluT
  idx_vars i
  pointwise

theorem lin1T_apply (x : FVec Ideal S256x200x17x2 .f32) (w : FVec Ideal S2x128 .f32) (b : Fin 256) (t : Fin 200) (n : Fin 17) (k : Fin 128) :
    lin1T x w (ix4 b t n k) = ∑ i : Fin 2, x (ix4 b t n i) * w (ix2 i k) := by
  unfold lin1T
  pointwise

theorem lin2T_apply (x : FVec Ideal S256x200x17x128 .f32) (w : FVec Ideal S128x128 .f32) (b : Fin 256) (t : Fin 200) (n : Fin 17) (k : Fin 128) :
    lin2T x w (ix4 b t n k) = ∑ i : Fin 128, x (ix4 b t n i) * w (ix2 i k) := by
  unfold lin2T
  pointwise

theorem meanT_apply (y : FVec Ideal S256x200x17x128 .f32) (b : Fin 256) (t : Fin 200) (k : Fin 128) :
    meanT y (ix3 t b k) = (∑ n, y (ix4 b t n k)) * ((1 / 17 : ℝ) : EReal) := by
  unfold meanT
  pointwise
  rw [seventeen]
  unfold Ideal.div
  rw [if_neg (by norm_num), ← EReal.coe_inv]
  norm_num

end Net.Ref
-- ==== Proof.RefLoop.lean ====
module

public import proofs.«01_k».proof.Proof.RefEntry
public import proofs.«01_k».proof.Proof.DataOf
public import Idealize.ShloMosaic.Lib.Tactic.CleanTypes

/-! # The reference's loop: 200 steps of the recurrent cell -/

@[expose] public section

set_option maxRecDepth 16384

noncomputable section

namespace Net.Ref

open Cert.ReferenceIdeal Cert.ReferenceIdeal.Gen Cert.ReferenceIdeal.Value
open Idealize.ShloMosaic Idealize.ShloMosaic.TcCoe Idealize.ShloMosaic.StableHlo

/-- What holds of the carried arrays before step `k`. -/
structure At (D : Data) (k : ℕ) (V : Valuation τ sig (Elt Ideal)) : Prop where
  pool : ∀ (b : Fin 256) (t : Fin 200) (h : Fin 128), V (Proc.devRef .tc main_v135_0) (ix3 t b h) = D.pooled b t h
  wih : ∀ (g : Fin 1024) (h : Fin 128), V (Proc.devRef .tc main_v135_1) (ix2 g h) = D.wih g h
  bih : ∀ g : Fin 1024, V (Proc.devRef .tc main_v135_2) (ix1 g) = D.bih g
  whh : ∀ (g : Fin 1024) (h : Fin 256), V (Proc.devRef .tc main_v135_3) (ix2 g h) = D.whh g h
  bhh : ∀ g : Fin 1024, V (Proc.devRef .tc main_v135_4) (ix1 g) = D.bhh g
  ctr : V (Proc.devRef .tc main_v135_5) = fun _ => BitVec.ofNat 32 k
  hid : ∀ b j : Fin 256, V (Proc.devRef .tc main_v135_6) (ix2 b j) = (D.state b k).1 j
  cell : ∀ b j : Fin 256, V (Proc.devRef .tc main_v135_7) (ix2 b j) = (D.state b k).2 j
  hs : ∀ (t : Fin 200) (b j : Fin 256), t.val < k → V (Proc.devRef .tc main_v135_8) (ix3 t b j) = (D.state b (t.val + 1)).1 j

variable {D : Data} {k : ℕ} {V : Valuation τ sig (Elt Ideal)}

/-- The words that say where step `k`'s slice of an array of 200 rows starts. -/
abbrev starts (k : ℕ) : Fin 3 → Int := fun a =>
  BitVec.toInt ((![fun _ => BitVec.ofNat 32 k, constantI S_ 32 0#32, constantI S_ 32 0#32] : Fin 3 → IVec S_ 32) a (Shape.Idx.first h_S_))

theorem starts_0 (hk : k < 200) : starts k 0 = (k : Int) := by
  show (BitVec.ofNat 32 k).toInt = _
  rw [BitVec.toInt_eq_toNat_of_lt] <;> rw [BitVec.toNat_ofNat, Nat.mod_eq_of_lt] <;> omega

theorem gate_at (hk : k < 200) (H : At D k V) (b : Fin 256) (g : Fin 1024) :
    res_main_while0b_v160 V (ix2 b g) = D.gate b k (D.state b k).1 g := by
  unfold res_main_while0b_v160
  clean_types
  rw [H.ctr]
  pointwise
  refine Eq.trans (congrArg₂ (· + ·) (congrArg₂ (· + ·) (congrArg₂ (· + ·)
    (Finset.sum_congr rfl fun x _ => congrArg₂ (· * ·) (H.wih g x) (?_ : _ = D.pooled b k x)) (H.bih g))
    (Finset.sum_congr rfl fun x _ => congrArg₂ (· * ·) (H.whh g x) (H.hid b x))) (H.bhh g)) ?_
  · refine (congrArg (V (Proc.devRef .tc main_v135_0)) ?_).trans (H.pool b ⟨k, hk⟩ x)
    have e0 : Host.clampedStart { rank := 3, size := ![200, 256, 128] } S1x256x128 rfl (starts k) 0 = k := by
      show (min (max (starts k 0) 0) 199).toNat = k
      rw [starts_0 hk]; omega
    refine congr (congr (congrArg (ix3 (n0 := 200) (n1 := 256) (n2 := 128)) (Fin.ext e0)) (Fin.ext (Nat.zero_add _))) (Fin.ext (Nat.zero_add _))
  · unfold Data.gate
    simp only [mul_comm (D.wih _ _), mul_comm (D.whh _ _)]
    ac_rfl

theorem one_eq : Ideal.ofBits .f32 0x3F800000#32 = (1 : EReal) := by
  simp [Ideal.ofBits, Ideal.ieee, -EReal.coe_mul]; norm_num

theorem cell_at (hk : k < 200) (H : At D k V) (b j : Fin 256) :
    res_main_while0b_v186 V (ix2 b j) = (D.state b (k + 1)).2 j := by
  unfold res_main_while0b_v186
  clean_types
  pointwise
  rw [gate_at hk H, gate_at hk H, gate_at hk H, H.cell]
  rfl

theorem hid_at (hk : k < 200) (H : At D k V) (b j : Fin 256) :
    res_main_while0b_v188 V (ix2 b j) = (D.state b (k + 1)).1 j := by
  unfold res_main_while0b_v188
  clean_types
  pointwise
  rw [gate_at hk H, cell_at hk H]
  rfl

/-- Writing row `k` of an array of 200 rows. -/
theorem set_row (hk : k < 200) (A : FVec Ideal S200x256x256 .f32) (u : FVec Ideal S256x256 .f32) (t : Fin 200) (b j : Fin 256) :
    Host.dynamicUpdateSlice A (broadcastInDim S1x256x256 ![1, 2] bcast_S256x256_S1x256x256_1_2 u) (starts k)
      updateFits_S200x256x256_S1x256x256 (ix3 t b j) = if t.val = k then u (ix2 b j) else A (ix3 t b j) := by
  pointwise
  have e0 : Host.clampedStart { rank := 3, size := ![200, 256, 256] } S1x256x256 rfl (starts k) 0 = k := by
    show (min (max (starts k 0) 0) 199).toNat = k
    rw [starts_0 hk]; omega
  have e1 : Host.clampedStart { rank := 3, size := ![200, 256, 256] } S1x256x256 rfl (starts k) 1 = 0 := rfl
  have e2 : Host.clampedStart { rank := 3, size := ![200, 256, 256] } S1x256x256 rfl (starts k) 2 = 0 := rfl
  by_cases h : t.val = k
  · rw [if_pos h, dif_pos ⟨⟨e0.trans_le h.ge, by rw [e0]; omega⟩, e1.trans_le (Nat.zero_le _), e2.trans_le (Nat.zero_le _)⟩]
    exact congrArg u (congr (congrArg (ix2 (n0 := 256) (n1 := 256)) (Fin.ext (Nat.sub_zero _))) (Fin.ext (Nat.sub_zero _)))
  · rw [if_neg h, dif_neg]
    rintro ⟨⟨h1, h2⟩, _⟩
    rw [e0] at h1 h2
    omega

theorem step_at (hk : k < 200) (H : At D k V) : At D (k + 1) (STEP V) where
  pool b t h := by rw [STEP_main_v135_0]; exact H.pool b t h
  wih g h := by rw [STEP_main_v135_1]; exact H.wih g h
  bih g := by rw [STEP_main_v135_2]; exact H.bih g
  whh g h := by rw [STEP_main_v135_3]; exact H.whh g h
  bhh g := by rw [STEP_main_v135_4]; exact H.bhh g
  ctr := by
    rw [STEP_main_v135_5]
    unfold step_main_v135_5
    rw [H.ctr]
    funext i
    show BitVec.ofNat 32 k + 1#32 = _
    exact (BitVec.ofNat_add k 1).symm
  hid b j := by rw [STEP_main_v135_6]; exact hid_at hk H b j
  cell b j := by rw [STEP_main_v135_7]; exact cell_at hk H b j
  hs t b j ht := by
    rw [STEP_main_v135_8]
    unfold step_main_v135_8
    rw [H.ctr]
    clean_types
    rw [id_eq]
    refine (set_row hk _ _ t b j).trans ?_
    by_cases h : t.val = k
    · rw [if_pos h, hid_at hk H, h]
    · rw [if_neg h]; exact H.hs t b j (by omega)

/-- A maximum over the time axis. -/
theorem max_time (x : FVec Ideal S256x200x256 .f32) (b j : Fin 256) :
    (Host.reduce FloatOps.maximumf x (constant S_ .f32 0xFF800000#32) reducesTo_S256x200x256_S256x256_d1 h_S_ : FVec Ideal S256x256 .f32) (ix2 b j)
      = Finset.fold max (Ideal.ofBits .f32 0xFF800000#32) (fun t : Fin 200 => x (ix3 b t j)) Finset.univ := by
  pointwise

theorem neg_inf : Ideal.ofBits .f32 0xFF800000#32 = (⊥ : EReal) := by
  simp [Ideal.ofBits, Ideal.ieee]

theorem fold_best (D : Data) (b j : Fin 256) : ∀ n, (Finset.univ : Finset (Fin n)).fold max (⊥ : EReal) (fun t => (D.state b (t.val + 1)).1 j) = D.best b n j
  | 0 => rfl
  | n + 1 => by
    rw [Fin.univ_castSuccEmb, Finset.fold_cons, Finset.fold_map]
    show max _ (Finset.fold max ⊥ (fun t : Fin n => (D.state b (t.val + 1)).1 j) Finset.univ) = _
    rw [fold_best D b j n, max_comm]
    rfl

/-- The result from the maximum over time. -/
def headT (x : FVec Ideal S256x256 .f32) (w : FVec Ideal S1x256 .f32) (f : FVec Ideal S1 .f32) : FVec Ideal S256x1 .f32 :=
  Host.divf (broadcastInDim S256x1 ![] bcast_S_S256x1 (constant S_ .f32 0x3F800000#32))
    (addf (broadcastInDim S256x1 ![] bcast_S_S256x1 (constant S_ .f32 0x3F800000#32))
      (Host.exp (Host.negf (addf (Host.dotGeneral dot_S256x256_S256x1_S256x1_1_0_0_1_n_n none x (transpose S256x1 [1, 0] w transposes_S1x256_S256x1_1_0))
        (broadcastInDim S256x1 ![0, 1] bcast_S1x1_S256x1_0_1 (broadcastInDim S1x1 ![1] bcast_S1_S1x1_1 f))))))

theorem headT_apply (x : FVec Ideal S256x256 .f32) (w : FVec Ideal S1x256 .f32) (f : FVec Ideal S1 .f32) (b : Fin 256) :
    headT x w f (ix2 b 0) = Ideal.logistic ((∑ j, x (ix2 b j) * w (ix2 0 j)) + f (ix1 0)) := by
  unfold headT
  pointwise
  rfl

theorem out_at (H : At D 200 V) (hw : ∀ j : Fin 256, V (Proc.devRef .tc main_arg10) (ix2 0 j) = D.fcw j)
    (hb : V (Proc.devRef .tc main_arg11) (ix1 0) = D.fcb) (b : Fin 256) : out_main_v148 V (ix2 b 0) = D.out b := by
  have e : out_main_v148 V = headT (Host.reduce FloatOps.maximumf
      (transpose S256x200x256 [1, 0, 2] (V (Proc.devRef .tc main_v135_8)) transposes_S200x256x256_S256x200x256_1_0_2)
      (constant S_ .f32 0xFF800000#32) reducesTo_S256x200x256_S256x256_d1 h_S_)
      (V (Proc.devRef .tc main_arg10)) (V (Proc.devRef .tc main_arg11)) := rfl
  have em : ∀ j : Fin 256, (Host.reduce FloatOps.maximumf
      (transpose S256x200x256 [1, 0, 2] (V (Proc.devRef .tc main_v135_8) : FVec Ideal S200x256x256 .f32) transposes_S200x256x256_S256x200x256_1_0_2)
      (constant S_ .f32 0xFF800000#32) reducesTo_S256x200x256_S256x256_d1 h_S_ : FVec Ideal S256x256 .f32) (ix2 b j) = D.best b 200 j := by
    intro j
    rw [max_time, neg_inf, ← fold_best]
    refine Finset.fold_congr fun t _ => ?_
    refine Eq.trans ?_ (H.hs t b j t.isLt)
    generalize (V (Proc.devRef .tc main_v135_8) : FVec Ideal S200x256x256 .f32) = A
    pointwise
  rw [e, headT_apply]
  unfold Data.out
  rw [hb]
  simp only [em, hw]

/-- At the loop's entry. -/
theorem entry_at (m : (ℓ : Loc nD τ sig) → Buf (Elt Ideal) ℓ) (c : Dev nD)
    (hE : ∀ (k : Fin 2) (e : Fin 17), ((m (c, Proc.devRef .tc main_arg1) : IVec S2x17 32) (ix2 k e)).toNat < 17) :
    At (dataOf (m (c, Proc.devRef .tc main_arg0)) (m (c, Proc.devRef .tc main_arg1)) (m (c, Proc.devRef .tc main_arg2))
      (m (c, Proc.devRef .tc main_arg3)) (m (c, Proc.devRef .tc main_arg4)) (m (c, Proc.devRef .tc main_arg5))
      (m (c, Proc.devRef .tc main_arg6)) (m (c, Proc.devRef .tc main_arg7)) (m (c, Proc.devRef .tc main_arg8))
      (m (c, Proc.devRef .tc main_arg9)) (m (c, Proc.devRef .tc main_arg10)) (m (c, Proc.devRef .tc main_arg11))) 0
      (entryContents preI m c) where
  pool b t h := by
    rw [entry_0]
    generalize (m (c, Proc.devRef .tc main_arg1) : IVec S2x17 32) = E at *
    have hr : ∀ e, rowOf E (ix1 e) = E (ix2 0 e) := fun e => by unfold rowOf; pointwise
    have hc : ∀ e, colOf E (ix1 e) = E (ix2 1 e) := fun e => by unfold colOf; pointwise
    have hr' : ∀ e, (rowOf E (ix1 e)).toNat < 17 := fun e => by rw [hr]; exact hE 0 e
    have hc' : ∀ e, (colOf E (ix1 e)).toNat < 17 := fun e => by rw [hc]; exact hE 1 e
    have ht : (⟨t.val % 200, Nat.mod_lt _ (by norm_num)⟩ : Fin 200) = t := Fin.ext (Nat.mod_eq_of_lt t.isLt)
    dsimp only
    rw [meanT_apply]
    unfold Data.pooled Data.hid2 Data.hid1 Data.A dataOf
    simp only [reluT_apply, convT_apply hr' hc', lin1T_apply, lin2T_apply, hr, hc, ht]
  wih g h := by rw [entry_1]; rfl
  bih g := by rw [entry_2]; rfl
  whh g h := by rw [entry_3]; rfl
  bhh g := by rw [entry_4]; rfl
  ctr := ctr_entry m c
  hid b j := by rw [entry_6]; rfl
  cell b j := by rw [entry_7]; rfl
  hs t b j h := absurd h (Nat.not_lt_zero _)

theorem iter_at {D : Data} {V : Valuation τ sig (Elt Ideal)} (H : At D 0 V) : ∀ k ≤ 200, At D k (STEP^[k] V)
  | 0, _ => H
  | k + 1, h => by
    rw [Function.iterate_succ_apply']
    exact step_at (by omega) (iter_at H k (by omega))

/-- The reference's result at an index. -/
theorem result (m : (ℓ : Loc nD τ sig) → Buf (Elt Ideal) ℓ) (c : Dev nD)
    (hE : ∀ (k : Fin 2) (e : Fin 17), ((m (c, Proc.devRef .tc main_arg1) : IVec S2x17 32) (ix2 k e)).toNat < 17) (b : Fin 256) :
    out_main_v148 (STEP^[200] (entryContents preI m c)) (ix2 b 0)
      = (dataOf (m (c, Proc.devRef .tc main_arg0)) (m (c, Proc.devRef .tc main_arg1)) (m (c, Proc.devRef .tc main_arg2))
      (m (c, Proc.devRef .tc main_arg3)) (m (c, Proc.devRef .tc main_arg4)) (m (c, Proc.devRef .tc main_arg5))
      (m (c, Proc.devRef .tc main_arg6)) (m (c, Proc.devRef .tc main_arg7)) (m (c, Proc.devRef .tc main_arg8))
      (m (c, Proc.devRef .tc main_arg9)) (m (c, Proc.devRef .tc main_arg10)) (m (c, Proc.devRef .tc main_arg11))).out b := by
  refine out_at (iter_at (entry_at m c hE) 200 le_rfl) (fun j => ?_) ?_ b
  · rw [iter_main_arg10]; rfl
  · rw [iter_main_arg11]; rfl

end Net.Ref
-- ==== Proof.Claims.lean ====
module

public import proofs.«01_k».proof.Defs
public import proofs.«01_k».proof.Proof.KFold
public import proofs.«01_k».proof.Proof.RefLoop
public import proofs.«01_k».proof.Proof.Gen.Kernel.Frame
public import proofs.«01_k».proof.Proof.Gen.KernelIdeal.Frame
public import Idealize.ShloMosaic.Adequacy
public import Idealize.ShloMosaic.Init

/-! # The claims

The frames, the named constant, and the equality of the two results: the precondition says that the features and the
first weight are real numbers and that the edges' ends are nodes. -/

@[expose] public section

set_option maxRecDepth 16384

noncomputable section

namespace Net.Claims

open Idealize.ShloMosaic Idealize.SL.Sem

instance preFacts : Cert.Pre_finite_inputs_and_edges.Facts where
  bcast_S_S256x200x17x2 := by decide
  bcast_S_S2x17 := by decide
  bcast_S_S2x128 := by decide

theorem top_eq : Ideal.ofBits .f32 0x7F800000#32 = (⊤ : EReal) := by
  simp [Ideal.ofBits, Ideal.ieee]

/-- A number of finite absolute value is real. -/
theorem real_of_lt (x : EReal) (h : Ideal.cmp .olt (max x (-x)) (Ideal.ofBits .f32 0x7F800000#32) = 1#1) : ∃ r : ℝ, x = (r : EReal) := by
  rw [top_eq] at h
  induction x using EReal.rec with
  | bot => simp [Ideal.cmp] at h
  | coe r => exact ⟨r, rfl⟩
  | top => simp [Ideal.cmp] at h

theorem node_of_cmp (w : BitVec 32) (h : IntOp.andi (IntOp.cmpi .sge w 0#32) (IntOp.cmpi .slt w 17#32) = 1#1) : w.toNat < 17 := by
  have hw := w.isLt
  have hi := BitVec.toInt_eq_toNat_cond w
  by_cases h1 : (0 : Int) ≤ w.toInt
  · by_cases h2 : w.toInt < 17
    · split_ifs at hi <;> omega
    · exfalso
      have e : IntOp.cmpi .slt w 17#32 = 0#1 := by simp [IntOp.cmpi, BitVec.slt, h2]
      rw [e] at h
      revert h
      generalize IntOp.cmpi .sge w 0#32 = q
      revert q
      decide
  · exfalso
    have e : IntOp.cmpi .sge w 0#32 = 0#1 := by simp [IntOp.cmpi, BitVec.sle, h1]
    rw [e] at h
    revert h
    generalize IntOp.cmpi .slt w 17#32 = q
    revert q
    decide

open Cert.Pre_finite_inputs_and_edges in
/-- The precondition, read. -/
theorem pre_read (x : FVec Ideal S256x200x17x2 .f32) (e : IVec S2x17 32) (w : FVec Ideal S2x128 .f32) (a3 a4 a5 a6 a7 a8 a9 a10 a11)
    (h0 : (fn (F := Ideal) x e w a3 a4 a5 a6 a7 a8 a9 a10 a11).1 = fun _ => 1#1)
    (h1 : (fn (F := Ideal) x e w a3 a4 a5 a6 a7 a8 a9 a10 a11).2.1 = fun _ => 1#1)
    (h2 : (fn (F := Ideal) x e w a3 a4 a5 a6 a7 a8 a9 a10 a11).2.2 = fun _ => 1#1) :
    (∀ i, ∃ r : ℝ, x i = (r : EReal)) ∧ (∀ i, (e i).toNat < 17) ∧ (∀ i, ∃ r : ℝ, w i = (r : EReal)) :=
  ⟨fun i => real_of_lt _ (congrFun h0 i), fun i => node_of_cmp _ (congrFun h1 i), fun i => real_of_lt _ (congrFun h2 i)⟩

theorem frame_p : Cert.quiescent_Kernel (hKernel := Cert.Kernel.Gen.facts) := fun m ρ _ => Cert.Kernel.Gen.frame m ρ

theorem frame_pi : Cert.quiescent_KernelIdeal (hKernelIdeal := Cert.KernelIdeal.Gen.facts) := fun m ρ _ => Cert.KernelIdeal.Gen.frame m ρ

theorem frame_pi_pre : Cert.quiescent_KernelIdeal_pre_finite_inputs_and_edges (hKernelIdeal := Cert.KernelIdeal.Gen.facts) :=
  fun m ρ _ => Cert.KernelIdeal.Gen.frame m ρ

theorem frame_ri : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ri_pre : Cert.quiescent_ReferenceIdeal_pre_finite_inputs_and_edges (hReferenceIdeal := Cert.ReferenceIdeal.Gen.facts) :=
  fun m ρ _ => frame_ri m ρ trivial

theorem preserves : Cert.preserves_Kernel_KernelIdeal :=
  IdealRules.named_const.statement Cert.KernelIdeal.κ "inv_n" .f32 0x3D70F0F1#32 ((1 / 17 : ℝ) : EReal) rfl

theorem dataOf_congr {x x' e e' w1 w1' b1 b1' w2 w2' b2 b2' wih wih' whh whh' bih bih' bhh bhh' fcw fcw' fcb fcb'}
    (h0 : x = x') (h1 : e = e') (h2 : w1 = w1') (h3 : b1 = b1') (h4 : w2 = w2') (h5 : b2 = b2') (h6 : wih = wih') (h7 : whh = whh')
    (h8 : bih = bih') (h9 : bhh = bhh') (h10 : fcw = fcw') (h11 : fcb = fcb') :
    dataOf x e w1 b1 w2 b2 wih whh bih bhh fcw fcb = dataOf x' e' w1' b1' w2' b2' wih' whh' bih' bhh' fcw' fcb' := by
  subst h0 h1 h2 h3 h4 h5 h6 h7 h8 h9 h10 h11
  rfl

/-- The two results are one array: both hold the network's output for every sample. -/
theorem algebraic : Cert.algebraic_KernelIdeal_ReferenceIdeal_pre_finite_inputs_and_edges (hKernelIdeal := Cert.KernelIdeal.Gen.facts)
    (hReferenceIdeal := Cert.ReferenceIdeal.Gen.facts) := by
  intro m ρ m' ρ' hpre hagree
  refine ⟨_, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨p0, p1, p2⟩ := hpre c
  obtain ⟨hx, he, hw⟩ := pre_read _ _ _ _ _ _ _ _ _ _ _ _ p0 p1 p2
  obtain ⟨g0, g1, g2, g3, g4, g5, g6, g7, g8, g9, g10, g11⟩ := hagree c
  have hK := Net.Ker.result m c (fun k l => he (ix2 k l)) ⟨fun b t n k => hx _, fun k h => hw _⟩
  have hR := Net.Ref.result m' c (fun k l => by
    have := he (ix2 k l)
    rwa [← g1] at this)
  have hd : dataOf (m' (c, Proc.devRef .tc Cert.ReferenceIdeal.main_arg0)) (m' (c, Proc.devRef .tc Cert.ReferenceIdeal.main_arg1))
      (m' (c, Proc.devRef .tc Cert.ReferenceIdeal.main_arg2)) (m' (c, Proc.devRef .tc Cert.ReferenceIdeal.main_arg3))
      (m' (c, Proc.devRef .tc Cert.ReferenceIdeal.main_arg4)) (m' (c, Proc.devRef .tc Cert.ReferenceIdeal.main_arg5))
      (m' (c, Proc.devRef .tc Cert.ReferenceIdeal.main_arg6)) (m' (c, Proc.devRef .tc Cert.ReferenceIdeal.main_arg7))
      (m' (c, Proc.devRef .tc Cert.ReferenceIdeal.main_arg8)) (m' (c, Proc.devRef .tc Cert.ReferenceIdeal.main_arg9))
      (m' (c, Proc.devRef .tc Cert.ReferenceIdeal.main_arg10)) (m' (c, Proc.devRef .tc Cert.ReferenceIdeal.main_arg11)) = Net.Ker.data m c :=
    dataOf_congr g0 g1 g2 g3 g4 g5 g6 g7 g8 g9 g10 g11
  funext i
  have hi : i = ix2 (i 0) 0 := by
    funext a
    fin_cases a
    · rfl
    · exact Subsingleton.elim (α := Fin 1) _ _
  rw [hi]
  refine (hR (i 0)).trans ?_
  rw [hd]
  exact (hK (i 0)).symm

end Net.Claims
-- ==== Proof.lean ====
/- The five claims, assembled from Proof/Claims.lean: the frames of the three programs, the named constant, and the
   equality of the kernel's and the reference's results over the extended reals. -/
module

public import proofs.«01_k».proof.Defs
public import proofs.«01_k».proof.Proof.Claims
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Net.Claims.preFacts,
    Net.Claims.frame_p, Net.Claims.frame_pi, Net.Claims.frame_pi_pre, Net.Claims.frame_ri, Net.Claims.frame_ri_pre,
    Net.Claims.preserves, Net.Claims.algebraic⟩

end Cert.Proof

end
